-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_on_adapter_exists [hKernelIdeal : Cert.KernelIdeal.Facts] [hReferenceIdeal : Cert.ReferenceIdeal.Facts] [hOn_adapter_exists : Cert.On_adapter_exists.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![3, 256, 2048]⟩ : Shape).Idx, (Cert.On_adapter_exists.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v6) i = v0 c i)
          ∧ (∀ i : (⟨3, ![5, 2048, 16]⟩ : Shape).Idx, (Cert.On_adapter_exists.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v8) i = v1 c i)
          ∧ (∀ i : (⟨3, ![5, 16, 5632]⟩ : Shape).Idx, (Cert.On_adapter_exists.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.KernelIdeal.nD Cert.KernelIdeal.τ).loc Cert.KernelIdeal.main_v9) i = v2 c i)
          ∧ (∀ i : (⟨3, ![3, 256, 16]⟩ : Shape).Idx, (Cert.On_adapter_exists.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.KernelIdeal.nD Cert.KernelIdeal.τ).loc Cert.KernelIdeal.main_v10) i = v3 c i)
          ∧ (∀ i : (⟨3, ![3, 256, 16]⟩ : Shape).Idx, (Cert.On_adapter_exists.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 i = 1#1 → r.2.mem ((c.tc : Thread Cert.KernelIdeal.nD Cert.KernelIdeal.τ).loc Cert.KernelIdeal.main_v11) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![3, 256, 2048]⟩ : Shape).Idx, (Cert.On_adapter_exists.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v63) i = v0 c i)
          ∧ (∀ i : (⟨3, ![5, 2048, 16]⟩ : Shape).Idx, (Cert.On_adapter_exists.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v67) i = v1 c i)
          ∧ (∀ i : (⟨3, ![5, 16, 5632]⟩ : Shape).Idx, (Cert.On_adapter_exists.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.ReferenceIdeal.nD Cert.ReferenceIdeal.τ).loc Cert.ReferenceIdeal.main_v70) i = v2 c i)
          ∧ (∀ i : (⟨3, ![3, 256, 16]⟩ : Shape).Idx, (Cert.On_adapter_exists.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.ReferenceIdeal.nD Cert.ReferenceIdeal.τ).loc Cert.ReferenceIdeal.main_v71) i = v3 c i)
          ∧ (∀ i : (⟨3, ![3, 256, 16]⟩ : Shape).Idx, (Cert.On_adapter_exists.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 i = 1#1 → r.2.mem ((c.tc : Thread Cert.ReferenceIdeal.nD Cert.ReferenceIdeal.τ).loc Cert.ReferenceIdeal.main_v72) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hOn_adapter_exists : Cert.On_adapter_exists.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_adapter_exists (hKernelIdeal := hKernelIdeal) (hReferenceIdeal := hReferenceIdeal) (hOn_adapter_exists := hOn_adapter_exists)
-- ==== On_adapter_exists.lean ====
abbrev S3x256x2048 : Shape := ⟨3, ![3, 256, 2048]⟩
abbrev S3x256x5632 : Shape := ⟨3, ![3, 256, 5632]⟩
abbrev S1024x5632 : Shape := ⟨2, ![1024, 5632]⟩
abbrev S16x5632 : Shape := ⟨2, ![16, 5632]⟩
abbrev S5x2048x16 : Shape := ⟨3, ![5, 2048, 16]⟩
abbrev S5x16x5632 : Shape := ⟨3, ![5, 16, 5632]⟩
abbrev S3x256 : Shape := ⟨2, ![3, 256]⟩
abbrev S_ : Shape := ⟨0, ![]⟩
abbrev S3x256x1 : Shape := ⟨3, ![3, 256, 1]⟩
abbrev S3x256x16 : Shape := ⟨3, ![3, 256, 16]⟩

class Facts : Prop where
  bcast_S_S3x256x2048 : S_.BroadcastsInDim S3x256x2048 (![] : Fin 0 → Fin S3x256x2048.rank)
  bcast_S_S5x2048x16 : S_.BroadcastsInDim S5x2048x16 (![] : Fin 0 → Fin S5x2048x16.rank)
  bcast_S_S5x16x5632 : S_.BroadcastsInDim S5x16x5632 (![] : Fin 0 → Fin S5x16x5632.rank)
  bcast_S_S3x256 : S_.BroadcastsInDim S3x256 (![] : Fin 0 → Fin S3x256.rank)
  bcast_S3x256_S3x256x1_0_1 : S3x256.BroadcastsInDim S3x256x1 (![0, 1] : Fin 2 → Fin S3x256x1.rank)
  bcast_S3x256x1_S3x256x16_0_1_2 : S3x256x1.BroadcastsInDim S3x256x16 (![0, 1, 2] : Fin 3 → Fin S3x256x16.rank)

variable [Facts]

def fn {F : FTy → Type} [FloatOps F] (main_arg0 : FVec F S3x256x2048 .bf16) (main_arg1 : FVec F S3x256x5632 .bf16) (main_arg2 : IVec S1024x5632 8) (main_arg3 : FVec F S16x5632 .bf16) (main_arg4 : FVec F S5x2048x16 .bf16) (main_arg5 : FVec F S5x16x5632 .bf16) (main_arg6 : IVec S3x256 32) : IVec S3x256x2048 1 × IVec S5x2048x16 1 × IVec S5x16x5632 1 × IVec S3x256x16 1 × IVec S3x256x16 1 :=
  let main_c : IVec S_ 1 := constantI S_ 1 1#1
  let main_v0 : IVec S3x256x2048 1 := broadcastInDim S3x256x2048 ![] bcast_S_S3x256x2048 main_c
  let main_c_0 : IVec S_ 1 := constantI S_ 1 1#1
  let main_v1 : IVec S5x2048x16 1 := broadcastInDim S5x2048x16 ![] bcast_S_S5x2048x16 main_c_0
  let main_c_1 : IVec S_ 1 := constantI S_ 1 1#1
  let main_v2 : IVec S5x16x5632 1 := broadcastInDim S5x16x5632 ![] bcast_S_S5x16x5632 main_c_1
  let main_c_2 : IVec S_ 32 := constantI S_ 32 0#32
  let main_v3 : IVec S3x256 32 := broadcastInDim S3x256 ![] bcast_S_S3x256 main_c_2
  let main_v4 : IVec S3x256 1 := cmpi .sge main_arg6 main_v3
  let main_c_3 : IVec S_ 32 := constantI S_ 32 5#32
  let main_v5 : IVec S3x256 32 := broadcastInDim S3x256 ![] bcast_S_S3x256 main_c_3
  let main_v6 : IVec S3x256 1 := cmpi .slt main_arg6 main_v5
  let main_v7 : IVec S3x256 1 := andi main_v4 main_v6
  let main_v8 : IVec S3x256x1 1 := broadcastInDim S3x256x1 ![0, 1] bcast_S3x256_S3x256x1_0_1 main_v7
  let main_v9 : IVec S3x256x16 1 := broadcastInDim S3x256x16 ![0, 1, 2] bcast_S3x256x1_S3x256x16_0_1_2 main_v8
  (main_v0, main_v1, main_v2, main_v9, main_v9)
-- ==== Kernel.lean ====
abbrev S3x256x2048 : Shape := ⟨3, ![3, 256, 2048]⟩
abbrev S3x256x5632 : Shape := ⟨3, ![3, 256, 5632]⟩
abbrev S1024x5632 : Shape := ⟨2, ![1024, 5632]⟩
abbrev S16x5632 : Shape := ⟨2, ![16, 5632]⟩
abbrev S5x2048x16 : Shape := ⟨3, ![5, 2048, 16]⟩
abbrev S5x16x5632 : Shape := ⟨3, ![5, 16, 5632]⟩
abbrev S3x256 : Shape := ⟨2, ![3, 256]⟩
abbrev S768x2048 : Shape := ⟨2, ![768, 2048]⟩
abbrev S768x5632 : Shape := ⟨2, ![768, 5632]⟩
abbrev S5x16x2048 : Shape := ⟨3, ![5, 16, 2048]⟩
abbrev S80x2048 : Shape := ⟨2, ![80, 2048]⟩
abbrev S80x5632 : Shape := ⟨2, ![80, 5632]⟩
abbrev S3x16x256 : Shape := ⟨3, ![3, 16, 256]⟩
abbrev S512x5632 : Shape := ⟨2, ![512, 5632]⟩
abbrev S1x256 : Shape := ⟨2, ![1, 256]⟩
abbrev S1x768 : Shape := ⟨2, ![1, 768]⟩
abbrev S80x768 : Shape := ⟨2, ![80, 768]⟩
abbrev S16x768 : Shape := ⟨2, ![16, 768]⟩
abbrev S16x256 : Shape := ⟨2, ![16, 256]⟩
abbrev S1x16x256 : Shape := ⟨3, ![1, 16, 256]⟩
abbrev S256x5632 : Shape := ⟨2, ![256, 5632]⟩
abbrev S4x5632 : Shape := ⟨2, ![4, 5632]⟩
abbrev S256x1x5632 : Shape := ⟨3, ![256, 1, 5632]⟩
abbrev S256x2x5632 : Shape := ⟨3, ![256, 2, 5632]⟩
abbrev S128x5632 : Shape := ⟨2, ![128, 5632]⟩
abbrev S1x5632 : Shape := ⟨2, ![1, 5632]⟩
abbrev S768x512 : Shape := ⟨2, ![768, 512]⟩
abbrev S80x512 : Shape := ⟨2, ![80, 512]⟩
abbrev S3x256x16 : Shape := ⟨3, ![3, 256, 16]⟩

abbrev nBuf : Space → Nat
  | .hbm => 23
  | .vmem => 13
  | .smem => 0
  | _ => 0

abbrev bufTy : (tb : Table) → Fin (tcTables nBuf tb) → BufTy
  | .hbm, ⟨0, _⟩ => ⟨S3x256x2048, .bf16⟩
  | .hbm, ⟨1, _⟩ => ⟨S3x256x5632, .bf16⟩
  | .hbm, ⟨2, _⟩ => ⟨S1024x5632, .i8⟩
  | .hbm, ⟨3, _⟩ => ⟨S16x5632, .bf16⟩
  | .hbm, ⟨4, _⟩ => ⟨S5x2048x16, .bf16⟩
  | .hbm, ⟨5, _⟩ => ⟨S5x16x5632, .bf16⟩
  | .hbm, ⟨6, _⟩ => ⟨S3x256, .i32⟩
  | .hbm, ⟨7, _⟩ => ⟨S768x2048, .bf16⟩
  | .hbm, ⟨8, _⟩ => ⟨S768x5632, .bf16⟩
  | .hbm, ⟨9, _⟩ => ⟨S5x16x2048, .bf16⟩
  | .hbm, ⟨10, _⟩ => ⟨S80x2048, .bf16⟩
  | .hbm, ⟨11, _⟩ => ⟨S80x5632, .bf16⟩
  | .hbm, ⟨12, _⟩ => ⟨S768x2048, .bf16⟩
  | .hbm, ⟨13, _⟩ => ⟨S80x2048, .f32⟩
  | .hbm, ⟨14, _⟩ => ⟨S80x5632, .f32⟩
  | .hbm, ⟨15, _⟩ => ⟨S3x16x256, .bf16⟩
  | .hbm, ⟨16, _⟩ => ⟨S3x16x256, .bf16⟩
  | .hbm, ⟨17, _⟩ => ⟨S3x256x2048, .bf16⟩
  | .hbm, ⟨18, _⟩ => ⟨S5x16x2048, .f32⟩
  | .hbm, ⟨19, _⟩ => ⟨S5x2048x16, .f32⟩
  | .hbm, ⟨20, _⟩ => ⟨S5x16x5632, .f32⟩
  | .hbm, ⟨21, _⟩ => ⟨S3x256x16, .bf16⟩
  | .hbm, ⟨22, _⟩ => ⟨S3x256x16, .bf16⟩
  | .local _ .vmem, ⟨0, _⟩ => ⟨S768x2048, .bf16⟩
  | .local _ .vmem, ⟨1, _⟩ => ⟨S768x5632, .bf16⟩
  | .local _ .vmem, ⟨2, _⟩ => ⟨S1024x5632, .i8⟩
  | .local _ .vmem, ⟨3, _⟩ => ⟨S16x5632, .bf16⟩
  | .local _ .vmem, ⟨4, _⟩ => ⟨S80x2048, .bf16⟩
  | .local _ .vmem, ⟨5, _⟩ => ⟨S80x5632, .bf16⟩
  | .local _ .vmem, ⟨6, _⟩ => ⟨S3x256, .i32⟩
  | .local _ .vmem, ⟨7, _⟩ => ⟨S768x2048, .bf16⟩
  | .local _ .vmem, ⟨8, _⟩ => ⟨S80x2048, .f32⟩
  | .local _ .vmem, ⟨9, _⟩ => ⟨S80x5632, .f32⟩
  | .local _ .vmem, ⟨10, _⟩ => ⟨S3x16x256, .bf16⟩
  | .local _ .vmem, ⟨11, _⟩ => ⟨S3x16x256, .bf16⟩
  | .local _ .vmem, ⟨12, _⟩ => ⟨S512x5632, .bf16⟩
  | _, _ => ⟨S3x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S768x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x5632 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S80x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S80x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x256 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S80x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S80x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x16x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x16x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== ReferenceIdeal.lean ====
abbrev S3x256x2048 : Shape := ⟨3, ![3, 256, 2048]⟩
abbrev S3x256x5632 : Shape := ⟨3, ![3, 256, 5632]⟩
abbrev S1024x5632 : Shape := ⟨2, ![1024, 5632]⟩
abbrev S16x5632 : Shape := ⟨2, ![16, 5632]⟩
abbrev S5x2048x16 : Shape := ⟨3, ![5, 2048, 16]⟩
abbrev S5x16x5632 : Shape := ⟨3, ![5, 16, 5632]⟩
abbrev S3x256 : Shape := ⟨2, ![3, 256]⟩
abbrev S768x2048 : Shape := ⟨2, ![768, 2048]⟩
abbrev S768x5632 : Shape := ⟨2, ![768, 5632]⟩
abbrev S768 : Shape := ⟨1, ![768]⟩
abbrev S_ : Shape := ⟨0, ![]⟩
abbrev S16x64x5632 : Shape := ⟨3, ![16, 64, 5632]⟩
abbrev S16x1x5632 : Shape := ⟨3, ![16, 1, 5632]⟩
abbrev S768x1024 : Shape := ⟨2, ![768, 1024]⟩
abbrev S768x1024x1 : Shape := ⟨3, ![768, 1024, 1]⟩
abbrev S768x1024x2 : Shape := ⟨3, ![768, 1024, 2]⟩
abbrev S768x1 : Shape := ⟨2, ![768, 1]⟩
abbrev S5 : Shape := ⟨1, ![5]⟩
abbrev S1x5 : Shape := ⟨2, ![1, 5]⟩
abbrev S768x5 : Shape := ⟨2, ![768, 5]⟩
abbrev S768x1x1 : Shape := ⟨3, ![768, 1, 1]⟩
abbrev S768x5x16 : Shape := ⟨3, ![768, 5, 16]⟩
abbrev S1 : Shape := ⟨1, ![1]⟩
abbrev S1x1x1 : Shape := ⟨3, ![1, 1, 1]⟩
abbrev S768x1x16 : Shape := ⟨3, ![768, 1, 16]⟩
abbrev S768x16 : Shape := ⟨2, ![768, 16]⟩
abbrev S768x5x1 : Shape := ⟨3, ![768, 5, 1]⟩
abbrev S5x16x2048 : Shape := ⟨3, ![5, 16, 2048]⟩
abbrev S3x256x16 : Shape := ⟨3, ![3, 256, 16]⟩

abbrev nBuf : Space → Nat
  | .hbm => 138
  | .vmem => 0
  | .smem => 0
  | _ => 0

abbrev hbmTy0_0 (i : Nat) : BufTy := match i % 128 with
  | 0 => ⟨S3x256x2048, .bf16⟩
  | 1 => ⟨S3x256x5632, .bf16⟩
  | 2 => ⟨S1024x5632, .i8⟩
  | 3 => ⟨S16x5632, .bf16⟩
  | 4 => ⟨S5x2048x16, .bf16⟩
  | 5 => ⟨S5x16x5632, .bf16⟩
  | 6 => ⟨S3x256, .i32⟩
  | 7 => ⟨S768x2048, .bf16⟩
  | 8 => ⟨S768x5632, .bf16⟩
  | 9 => ⟨S768, .i32⟩
  | 10 => ⟨S_, .f32⟩
  | 11 => ⟨S_, .f32⟩
  | 12 => ⟨S_, .f32⟩
  | 13 => ⟨S1024x5632, .i32⟩
  | 14 => ⟨S_, .i32⟩
  | 15 => ⟨S1024x5632, .i32⟩
  | 16 => ⟨S1024x5632, .i32⟩
  | 17 => ⟨S_, .i32⟩
  | 18 => ⟨S1024x5632, .i32⟩
  | 19 => ⟨S1024x5632, .i32⟩
  | 20 => ⟨S_, .i32⟩
  | 21 => ⟨S1024x5632, .i32⟩
  | 22 => ⟨S1024x5632, .i1⟩
  | 23 => ⟨S_, .i32⟩
  | 24 => ⟨S1024x5632, .i32⟩
  | 25 => ⟨S1024x5632, .i32⟩
  | 26 => ⟨S1024x5632, .i32⟩
  | 27 => ⟨S_, .i32⟩
  | 28 => ⟨S1024x5632, .i32⟩
  | 29 => ⟨S1024x5632, .i1⟩
  | 30 => ⟨S_, .i32⟩
  | 31 => ⟨S1024x5632, .i32⟩
  | 32 => ⟨S1024x5632, .i32⟩
  | 33 => ⟨S1024x5632, .i32⟩
  | 34 => ⟨S1024x5632, .bf16⟩
  | 35 => ⟨S16x64x5632, .bf16⟩
  | 36 => ⟨S16x1x5632, .bf16⟩
  | 37 => ⟨S16x64x5632, .bf16⟩
  | 38 => ⟨S16x64x5632, .bf16⟩
  | 39 => ⟨S1024x5632, .bf16⟩
  | 40 => ⟨S1024x5632, .bf16⟩
  | 41 => ⟨S16x64x5632, .bf16⟩
  | 42 => ⟨S16x1x5632, .bf16⟩
  | 43 => ⟨S16x64x5632, .bf16⟩
  | 44 => ⟨S16x64x5632, .bf16⟩
  | 45 => ⟨S1024x5632, .bf16⟩
  | 46 => ⟨S768x1024, .f32⟩
  | 47 => ⟨S768x1024, .f32⟩
  | 48 => ⟨S768x1024x1, .f32⟩
  | 49 => ⟨S768x1024x1, .f32⟩
  | 50 => ⟨S768x1024x2, .f32⟩
  | 51 => ⟨S768x2048, .f32⟩
  | 52 => ⟨S768x1, .i32⟩
  | 53 => ⟨S5, .i32⟩
  | 54 => ⟨S1x5, .i32⟩
  | 55 => ⟨S768x5, .i32⟩
  | 56 => ⟨S768x5, .i32⟩
  | 57 => ⟨S768x5, .i1⟩
  | 58 => ⟨S768x1x1, .i32⟩
  | 59 => ⟨S768x5x16, .f32⟩
  | 60 => ⟨S_, .i32⟩
  | 61 => ⟨S768x1x1, .i32⟩
  | 62 => ⟨S768x1x1, .i1⟩
  | 63 => ⟨S_, .i32⟩
  | 64 => ⟨S768x1x1, .i32⟩
  | 65 => ⟨S768x1x1, .i32⟩
  | 66 => ⟨S768x1x1, .i32⟩
  | 67 => ⟨S1, .i32⟩
  | 68 => ⟨S_, .i32⟩
  | 69 => ⟨S768x1x1, .i32⟩
  | 70 => ⟨S768x1x1, .i1⟩
  | 71 => ⟨S1x1x1, .i32⟩
  | 72 => ⟨S768x1x1, .i32⟩
  | 73 => ⟨S768x1x1, .i1⟩
  | 74 => ⟨S768x1x1, .i1⟩
  | 75 => ⟨S_, .i1⟩
  | 76 => ⟨S768x1, .i1⟩
  | 77 => ⟨S768x1x16, .f32⟩
  | 78 => ⟨S768x1x16, .i1⟩
  | 79 => ⟨S_, .f32⟩
  | 80 => ⟨S768x1x16, .f32⟩
  | 81 => ⟨S768x1x16, .f32⟩
  | 82 => ⟨S768x16, .f32⟩
  | 83 => ⟨S768x16, .bf16⟩
  | 84 => ⟨S768x5x16, .f32⟩
  | 85 => ⟨S_, .i32⟩
  | 86 => ⟨S768x1x1, .i32⟩
  | 87 => ⟨S768x1x1, .i1⟩
  | 88 => ⟨S_, .i32⟩
  | 89 => ⟨S768x1x1, .i32⟩
  | 90 => ⟨S768x1x1, .i32⟩
  | 91 => ⟨S768x1x1, .i32⟩
  | 92 => ⟨S1, .i32⟩
  | 93 => ⟨S_, .i32⟩
  | 94 => ⟨S768x1x1, .i32⟩
  | 95 => ⟨S768x1x1, .i1⟩
  | 96 => ⟨S1x1x1, .i32⟩
  | 97 => ⟨S768x1x1, .i32⟩
  | 98 => ⟨S768x1x1, .i1⟩
  | 99 => ⟨S768x1x1, .i1⟩
  | 100 => ⟨S_, .i1⟩
  | 101 => ⟨S768x1, .i1⟩
  | 102 => ⟨S768x1x16, .f32⟩
  | 103 => ⟨S768x1x16, .i1⟩
  | 104 => ⟨S_, .f32⟩
  | 105 => ⟨S768x1x16, .f32⟩
  | 106 => ⟨S768x1x16, .f32⟩
  | 107 => ⟨S768x16, .f32⟩
  | 108 => ⟨S768x16, .bf16⟩
  | 109 => ⟨S768x5x1, .i1⟩
  | 110 => ⟨S768x1x16, .bf16⟩
  | 111 => ⟨S_, .bf16⟩
  | 112 => ⟨S768x5x16, .i1⟩
  | 113 => ⟨S768x5x16, .bf16⟩
  | 114 => ⟨S768x5x16, .bf16⟩
  | 115 => ⟨S768x5x16, .bf16⟩
  | 116 => ⟨S768x5x1, .i1⟩
  | 117 => ⟨S768x1x16, .bf16⟩
  | 118 => ⟨S_, .bf16⟩
  | 119 => ⟨S768x5x16, .i1⟩
  | 120 => ⟨S768x5x16, .bf16⟩
  | 121 => ⟨S768x5x16, .bf16⟩
  | 122 => ⟨S768x5x16, .bf16⟩
  | 123 => ⟨S768x2048, .f32⟩
  | 124 => ⟨S768x2048, .f32⟩
  | 125 => ⟨S768x2048, .f32⟩
  | 126 => ⟨S768x2048, .f32⟩
  | 127 => ⟨S768x2048, .bf16⟩
  | _ => ⟨S3x256x2048, .bf16⟩

abbrev hbmTy0_1 (i : Nat) : BufTy := match i % 128 with
  | 0 => ⟨S3x256x2048, .bf16⟩
  | 1 => ⟨S5x16x2048, .f32⟩
  | 2 => ⟨S5x2048x16, .f32⟩
  | 3 => ⟨S5x2048x16, .f32⟩
  | 4 => ⟨S5x2048x16, .f32⟩
  | 5 => ⟨S5x16x5632, .f32⟩
  | 6 => ⟨S5x16x5632, .f32⟩
  | 7 => ⟨S5x16x5632, .f32⟩
  | 8 => ⟨S3x256x16, .bf16⟩
  | 9 => ⟨S3x256x16, .bf16⟩
  | _ => ⟨S3x256x2048, .bf16⟩

abbrev hbmTy (i : Nat) : BufTy := match i / 128 with
  | 0 => hbmTy0_0 i
  | 1 => hbmTy0_1 i
  | _ => ⟨S3x256x2048, .bf16⟩

abbrev bufTy : (tb : Table) → Fin (tcTables nBuf tb) → BufTy
  | .hbm, ⟨i, _⟩ => hbmTy i
  | _, _ => ⟨S3x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_c_2 : Ref sig .tc := ⟨.hbm, 68, rfl⟩
abbrev main_call2_v5 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_c_3 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_cst : Ref sig .tc := ⟨.hbm, 79, rfl⟩
abbrev main_call2_v14 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_call3_c : Ref sig .tc := ⟨.hbm, 85, rfl⟩
abbrev main_call3_v0 : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_c_1 : Ref sig .tc := ⟨.hbm, 92, rfl⟩
abbrev main_call3_c_2 : Ref sig .tc := ⟨.hbm, 93, rfl⟩
abbrev main_call3_v5 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_v9 : Ref sig .tc := ⟨.hbm, 98, rfl⟩
abbrev main_call3_v10 : Ref sig .tc := ⟨.hbm, 99, rfl⟩
abbrev main_call3_c_3 : Ref sig .tc := ⟨.hbm, 100, rfl⟩
abbrev main_call3_v11 : Ref sig .tc := ⟨.hbm, 101, rfl⟩
abbrev main_call3_v12 : Ref sig .tc := ⟨.hbm, 102, rfl⟩
abbrev main_call3_v13 : Ref sig .tc := ⟨.hbm, 103, rfl⟩
abbrev main_call3_cst : Ref sig .tc := ⟨.hbm, 104, rfl⟩
abbrev main_call3_v14 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_cst_6 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_cst_7 : Ref sig .tc := ⟨.hbm, 118, rfl⟩
abbrev main_call5_v0 : Ref sig .tc := ⟨.hbm, 119, rfl⟩
abbrev main_call5_v1 : Ref sig .tc := ⟨.hbm, 120, rfl⟩
abbrev main_call5_v2 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩

abbrev nD : Nat := 1
abbrev τ : Topo := Topo.v7x

variable {F : FTy → Type} [FloatOps F]
-- ==== Proof.Spec.lean ====
/-
  The five results as plain sums over extended reals, written once for both programs.

  An argument is a function on its index set: `x` and `dy` are indexed by (batch, position, channel), `w` holds two
  4-bit codes in each byte, `s` one scale for each group of 128 weight rows, `a` and `b` the five adapters, `ids` the
  adapter of each token. A token is one number `t` below 768, row `t / 256` and position `t % 256` of the batch.
-/
module

public import Idealize.ShloMosaic.Lib.Pointwise

@[expose] public section

noncomputable section

namespace Cert.Spec

open Idealize.ShloMosaic
open scoped BigOperators

/-- Extended reals on a rank-3 index set. -/
abbrev A3 (n0 n1 n2 : Nat) := (⟨3, ![n0, n1, n2]⟩ : Shape).Idx → EReal
/-- Extended reals on a rank-2 index set. -/
abbrev A2 (n0 n1 : Nat) := (⟨2, ![n0, n1]⟩ : Shape).Idx → EReal
/-- Words of `w` bits on a rank-2 index set. -/
abbrev I2 (w n0 n1 : Nat) := (⟨2, ![n0, n1]⟩ : Shape).Idx → BitVec w

/-- The batch row of a token. -/
def row (t : Fin 768) : Fin 3 := ⟨t.val / 256, by have := t.isLt; omega⟩
/-- The position of a token in its batch row. -/
def pos (t : Fin 768) : Fin 256 := ⟨t.val % 256, by omega⟩
/-- The token at a row and a position. -/
def tok (i : Fin 3) (j : Fin 256) : Fin 768 := ⟨i.val * 256 + j.val, by have := i.isLt; have := j.isLt; omega⟩
/-- The adapter of a stacked row `16 e + r`. -/
def adp (p : Fin 80) : Fin 5 := ⟨p.val / 16, by have := p.isLt; omega⟩
/-- The rank coordinate of a stacked row `16 e + r`. -/
def rk (p : Fin 80) : Fin 16 := ⟨p.val % 16, by omega⟩
/-- The stacked row of an adapter and a rank coordinate. -/
def stk (e : Fin 5) (r : Fin 16) : Fin 80 := ⟨e.val * 16 + r.val, by have := e.isLt; have := r.isLt; omega⟩

theorem row_tok (i : Fin 3) (j : Fin 256) : row (tok i j) = i :=
  Fin.ext (by have := i.isLt; have := j.isLt; simp only [row, tok]; omega)
theorem pos_tok (i : Fin 3) (j : Fin 256) : pos (tok i j) = j :=
  Fin.ext (by have := i.isLt; have := j.isLt; simp only [pos, tok]; omega)
theorem adp_stk (e : Fin 5) (r : Fin 16) : adp (stk e r) = e :=
  Fin.ext (by have := e.isLt; have := r.isLt; simp only [adp, stk]; omega)
theorem rk_stk (e : Fin 5) (r : Fin 16) : rk (stk e r) = r :=
  Fin.ext (by have := e.isLt; have := r.isLt; simp only [rk, stk]; omega)

/-- The 4-bit code of weight row `i` inside the byte its pair of rows shares: the low half for an even row. -/
def nib (b : BitVec 8) (i : Nat) : BitVec 4 := if i % 2 = 0 then b.setWidth 4 else (b >>> 4).setWidth 4

/-- Weight row `j` at column `n`: the signed code times the scale of the row's group. -/
def wt (w : I2 8 1024 5632) (s : A2 16 5632) (j : Fin 2048) (n : Fin 5632) : EReal :=
  (((nib (w (ix2 ⟨j.val / 2, by have := j.isLt; omega⟩ n)) j.val).toInt : ℝ) : EReal)
    * s (ix2 ⟨j.val / 128, by have := j.isLt; omega⟩ n)

/-- `dy` times the transpose of every adapter's B. -/
def gAll (dy : A3 3 256 5632) (b : A3 5 16 5632) (t : Fin 768) (e : Fin 5) (r : Fin 16) : EReal :=
  ∑ n : Fin 5632, b (ix3 e r n) * dy (ix3 (row t) (pos t) n)

/-- `x` times every adapter's A. -/
def xaAll (x : A3 3 256 2048) (a : A3 5 2048 16) (t : Fin 768) (e : Fin 5) (r : Fin 16) : EReal :=
  ∑ k : Fin 2048, a (ix3 e k r) * x (ix3 (row t) (pos t) k)

/-- A value of every adapter kept at a token only for the token's own adapter. -/
def keep (ids : I2 32 3 256) (f : Fin 768 → Fin 5 → Fin 16 → EReal) (t : Fin 768) (e : Fin 5) (r : Fin 16) : EReal :=
  if ids (ix2 (row t) (pos t)) = BitVec.ofNat 32 e.val then f t e r else 0

/-- The kept values summed over the adapters. -/
def own (ids : I2 32 3 256) (f : Fin 768 → Fin 5 → Fin 16 → EReal) (t : Fin 768) (r : Fin 16) : EReal :=
  keep ids f t 0 r + keep ids f t 1 r + keep ids f t 2 r + keep ids f t 3 r + keep ids f t 4 r

/-- The gradient of the input. -/
def dx (dy : A3 3 256 5632) (w : I2 8 1024 5632) (s : A2 16 5632) (a : A3 5 2048 16) (b : A3 5 16 5632)
    (ids : I2 32 3 256) (t : Fin 768) (j : Fin 2048) : EReal :=
  ∑ n : Fin 5632, dy (ix3 (row t) (pos t) n) * wt w s j n
    + ∑ p : Fin 80, keep ids (gAll dy b) t (adp p) (rk p) * a (ix3 (adp p) j (rk p))

/-- The gradient of the adapters' A. -/
def dA (x : A3 3 256 2048) (dy : A3 3 256 5632) (b : A3 5 16 5632) (ids : I2 32 3 256)
    (e : Fin 5) (j : Fin 2048) (r : Fin 16) : EReal :=
  ∑ t : Fin 768, keep ids (gAll dy b) t e r * x (ix3 (row t) (pos t) j)

/-- The gradient of the adapters' B. -/
def dB (x : A3 3 256 2048) (dy : A3 3 256 5632) (a : A3 5 2048 16) (ids : I2 32 3 256)
    (e : Fin 5) (r : Fin 16) (n : Fin 5632) : EReal :=
  ∑ t : Fin 768, keep ids (xaAll x a) t e r * dy (ix3 (row t) (pos t) n)

/-- At a token whose adapter `e` exists, summing the kept values gives the value of that adapter. -/
theorem own_eq (ids : I2 32 3 256) (f : Fin 768 → Fin 5 → Fin 16 → EReal) (t : Fin 768) (r : Fin 16) (e : Fin 5)
    (h : ids (ix2 (row t) (pos t)) = BitVec.ofNat 32 e.val) : own ids f t r = f t e r := by
  unfold own keep
  rw [h]
  revert h
  fin_cases e <;> intro _ <;> simp

end Cert.Spec

end
-- ==== Proof.Pay.lean ====
/-
  What the kernel stores, read at one index: the mask, the two low-rank products, the dequantised weight tile and the
  output tiles, each as a sum over extended reals.
-/
module

public import proofs.«01_k».proof.Proof.Gen.KernelIdeal.Skeleton
public import proofs.«01_k».proof.Proof.Spec

@[expose] public section

set_option maxRecDepth 16384

noncomputable section

namespace Cert.KernelIdeal.Pay

open Cert.KernelIdeal Cert.KernelIdeal.Gen Idealize.ShloMosaic Cert.Spec
open scoped BigOperators

/-- The kernel's floor division of a stacked row's number by 16, on words. -/
theorem floor16 (p : Fin 80) :
    Scalar.select
        (IntOp.andi
          (IntOp.cmpi CmpIPredicate.ne
            (IntOp.subi (BitVec.setWidth 32 (IntOp.cmpi CmpIPredicate.sgt (BitVec.ofNat 32 p.val) 0#32))
              (BitVec.setWidth 32 (IntOp.cmpi CmpIPredicate.slt (BitVec.ofNat 32 p.val) 0#32)))
            (Scalar.subi (Scalar.extui (Scalar.cmpi CmpIPredicate.sgt 16#32 0#32))
              (Scalar.extui (Scalar.cmpi CmpIPredicate.slt 16#32 0#32))))
          (IntOp.cmpi CmpIPredicate.ne (IntOp.remsi ArithUnit.vector (BitVec.ofNat 32 p.val) 16#32) 0#32))
        (IntOp.subi (IntOp.divsi ArithUnit.vector (BitVec.ofNat 32 p.val) 16#32) 1#32)
        (IntOp.divsi ArithUnit.vector (BitVec.ofNat 32 p.val) 16#32)
      = BitVec.ofNat 32 (adp p).val := by
  revert p
  decide +kernel

/-- The mask at a stacked row and a token of the first batch row. -/
theorem pay2_apply (v0 v1 v2 : Vec Ideal S1x256 .i32) (ids : I2 32 3 256)
    (h0 : ∀ q : Fin 256, v0 (ix2 0 q) = ids (ix2 0 q)) (h1 : ∀ q : Fin 256, v1 (ix2 0 q) = ids (ix2 1 q))
    (h2 : ∀ q : Fin 256, v2 (ix2 0 q) = ids (ix2 2 q)) (p : Fin 80) (t : Fin 768) :
    k0_pay2 (F := Ideal) v0 v1 v2 (ix2 p t)
      = IntOp.cmpi .eq (BitVec.ofNat 32 (adp p).val) (ids (ix2 (row t) (pos t))) := by
  pointwise [k0_pay2]
  rw [floor16]
  congr 1
  have ht := t.isLt
  by_cases h : t.val < 256
  · rw [dif_pos h, h0]
    congr 2 <;> simp only [row, pos, Fin.ext_iff] <;> omega
  · rw [dif_neg h]
    by_cases h' : t.val - 256 < 256
    · rw [dif_pos h', h1]
      congr 2 <;> simp only [row, pos, Fin.ext_iff] <;> omega
    · rw [dif_neg h', h2]
      congr 2 <;> simp only [row, pos, Fin.ext_iff] <;> omega

/-- Selecting on "these two words are equal". -/
theorem select_eq (x y : BitVec 32) (a b : EReal) :
    Scalar.select (IntOp.cmpi .eq x y) a b = if y = x then a else b := by
  by_cases h : y = x
  · subst h; simp [Scalar.select, IntOp.cmpi]
  · have h' : ¬ x = y := fun e => h e.symm
    have h'' : (x == y) = false := by simp [h']
    simp [Scalar.select, IntOp.cmpi, h, h'']

theorem pay10_apply (M : IVec S80x768 1) (b : Vec Ideal S80x5632 .bf16) (dy : Vec Ideal S768x5632 .bf16)
    (p : Fin 80) (t : Fin 768) :
    k0_pay10 (F := Ideal) M b dy (ix2 p t)
      = Scalar.select (M (ix2 p t)) (∑ n : Fin 5632, b (ix2 p n) * dy (ix2 t n)) (0 : EReal) := by
  pointwise [k0_pay10]

theorem pay3_apply (v0 v1 v2 : Vec Ideal S1x256 .i32) (a : Vec Ideal S80x2048 .bf16) (x : Vec Ideal S768x2048 .bf16)
    (p : Fin 80) (t : Fin 768) :
    k0_pay3 (F := Ideal) v0 v1 v2 a x (ix2 p t)
      = Scalar.select (k0_pay2 (F := Ideal) v0 v1 v2 (ix2 p t)) (∑ k : Fin 2048, a (ix2 p k) * x (ix2 t k)) (0 : EReal) := by
  pointwise [k0_pay3]

theorem pay17_apply (G : FVec Ideal S80x768 .f32) (x : Vec Ideal S768x2048 .bf16) (p : Fin 80) (j : Fin 2048) :
    k0_pay17 (F := Ideal) G x (ix2 p j) = ∑ t : Fin 768, G (ix2 p t) * x (ix2 t j) := by
  pointwise [k0_pay17, k0_pay16]

theorem pay9_apply (H : FVec Ideal S80x768 .f32) (dy : Vec Ideal S768x5632 .bf16) (p : Fin 80) (n : Fin 5632) :
    k0_pay9 (F := Ideal) H dy (ix2 p n) = ∑ t : Fin 768, H (ix2 p t) * dy (ix2 t n) := by
  pointwise [k0_pay9]

/-- A tile of the input's gradient at an index. -/
def tile (G : FVec Ideal S80x768 .bf16) (dy : Vec Ideal S768x5632 .bf16) (w : Vec Ideal S512x5632 .bf16)
    (a : Vec Ideal S80x512 .bf16) (t : Fin 768) (j : Fin 512) : EReal :=
  ∑ n : Fin 5632, dy (ix2 t n) * w (ix2 j n) + ∑ p : Fin 80, G (ix2 p t) * a (ix2 p j)

theorem pay22_apply (G : FVec Ideal S80x768 .f32) (dy : Vec Ideal S768x5632 .bf16) (w : Vec Ideal S512x5632 .bf16)
    (a : Vec Ideal S80x512 .bf16) (t : Fin 768) (j : Fin 512) :
    k0_pay22 (F := Ideal) (k0_pay16 G) dy w a (ix2 t j) = tile G dy w a t j := by
  pointwise [k0_pay22, k0_pay16, tile]

theorem pay26_apply (G : FVec Ideal S80x768 .f32) (dy : Vec Ideal S768x5632 .bf16) (w : Vec Ideal S512x5632 .bf16)
    (a : Vec Ideal S80x512 .bf16) (t : Fin 768) (j : Fin 512) :
    k0_pay26 (F := Ideal) (k0_pay16 G) dy w a (ix2 t j) = tile G dy w a t j := by
  pointwise [k0_pay26, k0_pay16, tile]

theorem pay30_apply (G : FVec Ideal S80x768 .f32) (dy : Vec Ideal S768x5632 .bf16) (w : Vec Ideal S512x5632 .bf16)
    (a : Vec Ideal S80x512 .bf16) (t : Fin 768) (j : Fin 512) :
    k0_pay30 (F := Ideal) (k0_pay16 G) (k0_pay28 dy w) (k0_pay29 a) (constant S768x512 .f32 0#32) (ix2 t j)
      = tile G dy w a t j := by
  pointwise [k0_pay30, k0_pay28, k0_pay29, k0_pay16, tile]

theorem pay1_apply (G : FVec Ideal S80x768 .f32) (dy : Vec Ideal S768x5632 .bf16) (w : Vec Ideal S512x5632 .bf16)
    (a : Vec Ideal S80x512 .bf16) (t : Fin 768) (j : Fin 512) :
    k0_pay1 (F := Ideal) (k0_pay16 G) (k0_pay32 dy) w a (ix2 t j) = tile G dy w a t j := by
  pointwise [k0_pay1, k0_pay32, k0_pay16, tile]

/-- The five bands of 16 rows of a stacked product added up, at a rank coordinate and a token. -/
def bands (G : FVec Ideal S80x768 .f32) (r : Fin 16) (t : Fin 768) : EReal :=
  G (ix2 (stk 0 r) t) + G (ix2 (stk 1 r) t) + G (ix2 (stk 2 r) t) + G (ix2 (stk 3 r) t) + G (ix2 (stk 4 r) t)

theorem bands_of (G : FVec Ideal S80x768 .f32) (r : Fin 16) (t t' : Fin 768) (a0 a1 a2 a3 a4 : Fin 80)
    (h0 : a0.val = r.val) (h1 : a1.val = 16 + r.val) (h2 : a2.val = 32 + r.val) (h3 : a3.val = 48 + r.val)
    (h4 : a4.val = 64 + r.val) (ht : t'.val = t.val) :
    G (ix2 a0 t') + G (ix2 a1 t') + G (ix2 a2 t') + G (ix2 a3 t') + G (ix2 a4 t') = bands G r t := by
  have e0 : a0 = stk 0 r := Fin.ext (by rw [h0]; show r.val = 0 * 16 + r.val; omega)
  have e1 : a1 = stk 1 r := Fin.ext (by rw [h1]; show 16 + r.val = 1 * 16 + r.val; omega)
  have e2 : a2 = stk 2 r := Fin.ext (by rw [h2]; show 32 + r.val = 2 * 16 + r.val; omega)
  have e3 : a3 = stk 3 r := Fin.ext (by rw [h3]; show 48 + r.val = 3 * 16 + r.val; omega)
  have e4 : a4 = stk 4 r := Fin.ext (by rw [h4]; show 64 + r.val = 4 * 16 + r.val; omega)
  have et : t' = t := Fin.ext ht
  rw [e0, e1, e2, e3, e4, et]
  rfl

theorem pay13_apply (M : IVec S80x768 1) (b : Vec Ideal S80x5632 .bf16) (dy : Vec Ideal S768x5632 .bf16)
    (u : Fin 1) (r : Fin 16) (q : Fin 256) :
    k0_pay13 (F := Ideal) (k0_pay10 M b dy) (k0_pay11 M b dy) (ix3 u r q) = bands (k0_pay10 M b dy) r (tok 0 q) := by
  generalize hG : (k0_pay10 M b dy) = G
  pointwise [k0_pay13, k0_pay12, k0_pay11]
  rw [hG]
  exact bands_of G r _ _ _ _ _ _ _ rfl rfl rfl rfl rfl (by simp [tok])

theorem pay14_apply (M : IVec S80x768 1) (b : Vec Ideal S80x5632 .bf16) (dy : Vec Ideal S768x5632 .bf16)
    (u : Fin 1) (r : Fin 16) (q : Fin 256) :
    k0_pay14 (F := Ideal) (k0_pay10 M b dy) (k0_pay11 M b dy) (ix3 u r q) = bands (k0_pay10 M b dy) r (tok 1 q) := by
  generalize hG : (k0_pay10 M b dy) = G
  pointwise [k0_pay14, k0_pay12, k0_pay11]
  rw [hG]
  exact bands_of G r _ _ _ _ _ _ _ rfl rfl rfl rfl rfl (by simp [tok])

theorem pay15_apply (M : IVec S80x768 1) (b : Vec Ideal S80x5632 .bf16) (dy : Vec Ideal S768x5632 .bf16)
    (u : Fin 1) (r : Fin 16) (q : Fin 256) :
    k0_pay15 (F := Ideal) (k0_pay10 M b dy) (k0_pay11 M b dy) (ix3 u r q) = bands (k0_pay10 M b dy) r (tok 2 q) := by
  generalize hG : (k0_pay10 M b dy) = G
  pointwise [k0_pay15, k0_pay12, k0_pay11]
  rw [hG]
  exact bands_of G r _ _ _ _ _ _ _ rfl rfl rfl rfl rfl (by simp [tok])

theorem pay6_apply (v0 v1 v2 : Vec Ideal S1x256 .i32) (a : Vec Ideal S80x2048 .bf16) (x : Vec Ideal S768x2048 .bf16)
    (u : Fin 1) (r : Fin 16) (q : Fin 256) :
    k0_pay6 (F := Ideal) (k0_pay3 v0 v1 v2 a x) (k0_pay4 v0 v1 v2 a x) (ix3 u r q) = bands (k0_pay3 v0 v1 v2 a x) r (tok 0 q) := by
  generalize hG : (k0_pay3 v0 v1 v2 a x) = G
  pointwise [k0_pay6, k0_pay5, k0_pay4]
  rw [hG]
  exact bands_of G r _ _ _ _ _ _ _ rfl rfl rfl rfl rfl (by simp [tok])

theorem pay7_apply (v0 v1 v2 : Vec Ideal S1x256 .i32) (a : Vec Ideal S80x2048 .bf16) (x : Vec Ideal S768x2048 .bf16)
    (u : Fin 1) (r : Fin 16) (q : Fin 256) :
    k0_pay7 (F := Ideal) (k0_pay3 v0 v1 v2 a x) (k0_pay4 v0 v1 v2 a x) (ix3 u r q) = bands (k0_pay3 v0 v1 v2 a x) r (tok 1 q) := by
  generalize hG : (k0_pay3 v0 v1 v2 a x) = G
  pointwise [k0_pay7, k0_pay5, k0_pay4]
  rw [hG]
  exact bands_of G r _ _ _ _ _ _ _ rfl rfl rfl rfl rfl (by simp [tok])

theorem pay8_apply (v0 v1 v2 : Vec Ideal S1x256 .i32) (a : Vec Ideal S80x2048 .bf16) (x : Vec Ideal S768x2048 .bf16)
    (u : Fin 1) (r : Fin 16) (q : Fin 256) :
    k0_pay8 (F := Ideal) (k0_pay3 v0 v1 v2 a x) (k0_pay4 v0 v1 v2 a x) (ix3 u r q) = bands (k0_pay3 v0 v1 v2 a x) r (tok 2 q) := by
  generalize hG : (k0_pay3 v0 v1 v2 a x) = G
  pointwise [k0_pay8, k0_pay5, k0_pay4]
  rw [hG]
  exact bands_of G r _ _ _ _ _ _ _ rfl rfl rfl rfl rfl (by simp [tok])

end Cert.KernelIdeal.Pay

end
-- ==== Proof.Tile.lean ====
/-
  The dequantised weight tile the kernel keeps in scratch, read at one index: the signed 4-bit code times the scale of
  the row's group of 128. The kernel writes the same computation four times, cut in different places.
-/
module

public import proofs.«01_k».proof.Proof.Gen.KernelIdeal.Skeleton
public import proofs.«01_k».proof.Proof.Spec

@[expose] public section

set_option maxRecDepth 16384

noncomputable section

namespace Cert.KernelIdeal.Tile

open Cert.KernelIdeal Cert.KernelIdeal.Gen Idealize.ShloMosaic Cert.Spec
open scoped BigOperators

/-- Shifting the low half of a byte to the top of a word and back sign-extends it; four bits of that are the half. -/
theorem low_code (b : BitVec 8) :
    (IntOp.shrsi .vector (IntOp.shli .vector (b.setWidth 32) 28#32) 28#32).setWidth 4 = b.setWidth 4 := by
  revert b; decide +kernel

/-- The same of the high half. -/
theorem high_code (b : BitVec 8) :
    (IntOp.shrsi .vector (IntOp.shli .vector (b.setWidth 32) 24#32) 28#32).setWidth 4 = (b >>> 4).setWidth 4 := by
  revert b; decide +kernel

/-- The tile at a row and a column. -/
def wtile (w : I2 8 256 5632) (s : A2 4 5632) (i : Fin 512) (n : Fin 5632) : EReal :=
  (((nib (w (ix2 ⟨i.val / 2, by have := i.isLt; omega⟩ n)) i.val).toInt : ℝ) : EReal)
    * s (ix2 ⟨i.val / 128, by have := i.isLt; omega⟩ n)

/-- One band of 128 rows at an index: `k` is the row and `g` its group, however the program computed them. -/
theorem band (w : I2 8 256 5632) (s : A2 4 5632) (i : Fin 512) (n : Fin 5632) (k : Nat) (g : Fin 4)
    (hk : k = i.val) (hg : g.val = i.val / 128) (h1 h2 : k / 2 < 256) :
    (FloatOps.sitofp (F := Ideal) FTy.bf16
        (BitVec.setWidth 4
          (if h : k % 2 < 1 then
            IntOp.shrsi ArithUnit.vector
              (IntOp.shli ArithUnit.vector (BitVec.setWidth 32 (w (ix2 ⟨k / 2, h1⟩ n))) 28#32) 28#32
          else
            IntOp.shrsi ArithUnit.vector
              (IntOp.shli ArithUnit.vector (BitVec.setWidth 32 (w (ix2 ⟨k / 2, h2⟩ n))) 24#32) 28#32)) : EReal)
      * s (ix2 g n) = wtile w s i n := by
  subst hk
  have hi := i.isLt
  have hg' : g = ⟨i.val / 128, by omega⟩ := Fin.ext hg
  rw [hg']
  unfold wtile nib
  congr 1
  by_cases h : i.val % 2 = 0
  · rw [dif_pos (by omega), if_pos h, low_code]
    rfl
  · rw [dif_neg (by omega), if_neg h, high_code]
    rfl

theorem pay21_apply (w : Vec Ideal S256x5632 .i8) (s : Vec Ideal S4x5632 .bf16) (i : Fin 512) (n : Fin 5632) :
    k0_pay21 (F := Ideal) s (k0_pay19 w) (k0_pay20 w) (ix2 i n) = wtile w s i n := by
  pointwise [k0_pay21, k0_pay19, k0_pay20, k0_pay18]
  have hi := i.isLt
  by_cases h0 : i.val < 128
  · rw [dif_pos h0]
    exact band w s i n _ 0 rfl (by show 0 = i.val / 128; omega) (by omega) (by omega)
  rw [dif_neg h0]
  by_cases h1 : i.val - 128 < 128
  · rw [dif_pos h1]
    exact band w s i n _ 1 (by omega) (by show 1 = i.val / 128; omega) (by omega) (by omega)
  rw [dif_neg h1]
  by_cases h2 : i.val - 128 - 128 < 128
  · rw [dif_pos h2]
    exact band w s i n _ 2 (by omega) (by show 2 = i.val / 128; omega) (by omega) (by omega)
  rw [dif_neg h2]
  exact band w s i n _ 3 (by omega) (by show 3 = i.val / 128; omega) (by omega) (by omega)

theorem pay25_apply (w : Vec Ideal S256x5632 .i8) (s : Vec Ideal S4x5632 .bf16) (i : Fin 512) (n : Fin 5632) :
    k0_pay25 (F := Ideal) s (k0_pay23 w) (k0_pay24 w) 28#32 (ix2 i n) = wtile w s i n := by
  pointwise [k0_pay25, k0_pay23, k0_pay24]
  have hi := i.isLt
  by_cases h0 : i.val < 128
  · rw [dif_pos h0]
    exact band w s i n _ 0 rfl (by show 0 = i.val / 128; omega) (by omega) (by omega)
  rw [dif_neg h0]
  by_cases h1 : i.val - 128 < 128
  · rw [dif_pos h1]
    exact band w s i n _ 1 (by omega) (by show 1 = i.val / 128; omega) (by omega) (by omega)
  rw [dif_neg h1]
  by_cases h2 : i.val - 128 - 128 < 128
  · rw [dif_pos h2]
    exact band w s i n _ 2 (by omega) (by show 2 = i.val / 128; omega) (by omega) (by omega)
  rw [dif_neg h2]
  exact band w s i n _ 3 (by omega) (by show 3 = i.val / 128; omega) (by omega) (by omega)

theorem pay27_apply (w : Vec Ideal S256x5632 .i8) (s : Vec Ideal S4x5632 .bf16) (i : Fin 512) (n : Fin 5632) :
    k0_pay27 (F := Ideal) w s (ix2 i n) = wtile w s i n := by
  pointwise [k0_pay27]
  have hi := i.isLt
  by_cases h0 : i.val < 128
  · rw [dif_pos h0]
    exact band w s i n _ 0 rfl (by show 0 = i.val / 128; omega) (by omega) (by omega)
  rw [dif_neg h0]
  by_cases h1 : i.val - 128 < 128
  · rw [dif_pos h1]
    exact band w s i n _ 1 (by omega) (by show 1 = i.val / 128; omega) (by omega) (by omega)
  rw [dif_neg h1]
  by_cases h2 : i.val - 128 - 128 < 128
  · rw [dif_pos h2]
    exact band w s i n _ 2 (by omega) (by show 2 = i.val / 128; omega) (by omega) (by omega)
  rw [dif_neg h2]
  exact band w s i n _ 3 (by omega) (by show 3 = i.val / 128; omega) (by omega) (by omega)

theorem pay31_apply (w : Vec Ideal S256x5632 .i8) (s : Vec Ideal S4x5632 .bf16) (i : Fin 512) (n : Fin 5632) :
    k0_pay31 (F := Ideal) w s (ix2 i n) = wtile w s i n := by
  pointwise [k0_pay31]
  have hi := i.isLt
  by_cases h0 : i.val < 128
  · rw [dif_pos h0]
    exact band w s i n _ 0 rfl (by show 0 = i.val / 128; omega) (by omega) (by omega)
  rw [dif_neg h0]
  by_cases h1 : i.val - 128 < 128
  · rw [dif_pos h1]
    exact band w s i n _ 1 (by omega) (by show 1 = i.val / 128; omega) (by omega) (by omega)
  rw [dif_neg h1]
  by_cases h2 : i.val - 128 - 128 < 128
  · rw [dif_pos h2]
    exact band w s i n _ 2 (by omega) (by show 2 = i.val / 128; omega) (by omega) (by omega)
  rw [dif_neg h2]
  exact band w s i n _ 3 (by omega) (by show 3 = i.val / 128; omega) (by omega) (by omega)

end Cert.KernelIdeal.Tile

end
-- ==== Proof.Block.lean ====
/-
  The kernel's stored values as functions of the whole input blocks: the loads of part of a block composed with the
  payloads read at an index.
-/
module

public import proofs.«01_k».proof.Proof.Pay
public import proofs.«01_k».proof.Proof.Tile
public import Idealize.ShloMosaic.Lib.Pipeline.ValueKit.Tiles

@[expose] public section

set_option maxRecDepth 16384

noncomputable section

namespace Cert.KernelIdeal.Block

open Cert.KernelIdeal Cert.KernelIdeal.Gen Idealize.ShloMosaic Cert.Spec Cert.KernelIdeal.Pay Cert.KernelIdeal.Tile
open scoped BigOperators

/-- A rank-2 load through a literal rectangle reads the block at offset plus index. -/
theorem ld2 {e : EltTy} {n0 n1 m0 m1 : Nat} (o0 o1 : Nat) (X : Vec Ideal ⟨2, ![n0, n1]⟩ e)
    (inb : ∀ a, (![o0, o1] : Fin 2 → Nat) a + (![m0, m1] : Fin 2 → Nat) a ≤ (⟨2, ![n0, n1]⟩ : Shape).size a)
    (i : Fin m0) (j : Fin m1) (i' : Fin n0) (j' : Fin n1) (hi : i'.val = o0 + i.val) (hj : j'.val = o1 + j.val) :
    View.ld (Val := Elt Ideal) (e' := e) X (Rect.unit ![o0, o1] ![m0, m1] inb) (ix2 i j) = X (ix2 i' j') :=
  View.ld_unit_apply_of (Val := Elt Ideal) (e := e) X ![o0, o1] ![m0, m1] inb (ix2 i j) (ix2 i' j') fun a =>
    match a with
    | ⟨0, _⟩ => hi
    | ⟨1, _⟩ => hj

variable (x0 : Vec Ideal S768x2048 .bf16) (x1 : Vec Ideal S768x5632 .bf16) (x2 : Vec Ideal S1024x5632 .i8)
  (x3 : Vec Ideal S16x5632 .bf16) (x4 : Vec Ideal S80x2048 .bf16) (x5 : Vec Ideal S80x5632 .bf16)
  (x6 : Vec Ideal S3x256 .i32)

/-- The kernel's mask, from the whole block of adapter ids. -/
abbrev mask : IVec S80x768 1 :=
  k0_pay2 (F := Ideal) (View.ld x6 (Rect.unit ![0, 0] ![1, 256] inb_S3x256_S1x256_0_0))
    (View.ld x6 (Rect.unit ![1, 0] ![1, 256] inb_S3x256_S1x256_1_0))
    (View.ld x6 (Rect.unit ![2, 0] ![1, 256] inb_S3x256_S1x256_2_0))

theorem mask_apply (p : Fin 80) (t : Fin 768) :
    mask x6 (ix2 p t) = IntOp.cmpi .eq (BitVec.ofNat 32 (adp p).val) (x6 (ix2 (row t) (pos t))) :=
  pay2_apply _ _ _ x6
    (fun q => ld2 0 0 x6 _ 0 q 0 q rfl (by omega)) (fun q => ld2 1 0 x6 _ 0 q 1 q rfl (by omega))
    (fun q => ld2 2 0 x6 _ 0 q 2 q rfl (by omega)) p t

/-- The masked product with the stacked B. -/
abbrev keptG : FVec Ideal S80x768 .f32 := k0_pay10 (F := Ideal) (mask x6) x5 x1
/-- The masked product with the stacked A. -/
abbrev keptX : FVec Ideal S80x768 .f32 :=
  k0_pay3 (F := Ideal) (View.ld x6 (Rect.unit ![0, 0] ![1, 256] inb_S3x256_S1x256_0_0))
    (View.ld x6 (Rect.unit ![1, 0] ![1, 256] inb_S3x256_S1x256_1_0))
    (View.ld x6 (Rect.unit ![2, 0] ![1, 256] inb_S3x256_S1x256_2_0)) x4 x0

theorem keptG_apply (p : Fin 80) (t : Fin 768) :
    keptG x1 x5 x6 (ix2 p t) = if x6 (ix2 (row t) (pos t)) = BitVec.ofNat 32 (adp p).val
      then ∑ n : Fin 5632, x5 (ix2 p n) * x1 (ix2 t n) else (0 : EReal) := by
  rw [keptG, pay10_apply, mask_apply, select_eq]

theorem keptX_apply (p : Fin 80) (t : Fin 768) :
    keptX x0 x4 x6 (ix2 p t) = if x6 (ix2 (row t) (pos t)) = BitVec.ofNat 32 (adp p).val
      then ∑ k : Fin 2048, x4 (ix2 p k) * x0 (ix2 t k) else (0 : EReal) := by
  have h : k0_pay2 (F := Ideal) (View.ld x6 (Rect.unit ![0, 0] ![1, 256] inb_S3x256_S1x256_0_0))
      (View.ld x6 (Rect.unit ![1, 0] ![1, 256] inb_S3x256_S1x256_1_0))
      (View.ld x6 (Rect.unit ![2, 0] ![1, 256] inb_S3x256_S1x256_2_0)) (ix2 p t) = _ := mask_apply x6 p t
  rw [keptX, pay3_apply, h, select_eq]

/-- A band of 512 weight rows: the tile of the band is the dequantised weight at the row counted from the top. -/
theorem wtile_wt (k : Fin 4) (w : Vec Ideal S256x5632 .i8) (s : Vec Ideal S4x5632 .bf16)
    (hw : ∀ (i : Fin 256) (n : Fin 5632), w (ix2 i n) = x2 (ix2 ⟨256 * k.val + i.val, by have := k.isLt; have := i.isLt; omega⟩ n))
    (hs : ∀ (g : Fin 4) (n : Fin 5632), s (ix2 g n) = x3 (ix2 ⟨4 * k.val + g.val, by have := k.isLt; have := g.isLt; omega⟩ n))
    (i : Fin 512) (n : Fin 5632) :
    wtile w s i n = wt x2 x3 ⟨512 * k.val + i.val, by have := k.isLt; have := i.isLt; omega⟩ n := by
  have hk := k.isLt
  have hi := i.isLt
  unfold wtile wt
  rw [hs, hw]
  have e1 : (⟨256 * k.val + i.val / 2, by omega⟩ : Fin 1024) = ⟨(512 * k.val + i.val) / 2, by omega⟩ :=
    Fin.ext (by show 256 * k.val + i.val / 2 = (512 * k.val + i.val) / 2; omega)
  have e2 : (⟨4 * k.val + i.val / 128, by omega⟩ : Fin 16) = ⟨(512 * k.val + i.val) / 128, by omega⟩ :=
    Fin.ext (by show 4 * k.val + i.val / 128 = (512 * k.val + i.val) / 128; omega)
  have e3 : ∀ b : BitVec 8, nib b i.val = nib b (512 * k.val + i.val) := fun b => by
    unfold nib
    rw [show (512 * k.val + i.val) % 2 = i.val % 2 by omega]
  rw [e1, e2, e3]

/-- The input's gradient from the blocks. -/
def kdx (t : Fin 768) (j : Fin 2048) : EReal :=
  ∑ n : Fin 5632, x1 (ix2 t n) * wt x2 x3 j n + ∑ p : Fin 80, keptG x1 x5 x6 (ix2 p t) * x4 (ix2 p j)

/-- A tile of 512 columns of the input's gradient, from its band of weight rows and its columns of the stacked A. -/
theorem tile_kdx (k : Fin 4) (W : Vec Ideal S512x5632 .bf16) (a : Vec Ideal S80x512 .bf16)
    (hW : ∀ (i : Fin 512) (n : Fin 5632), W (ix2 i n) = wt x2 x3 ⟨512 * k.val + i.val, by have := k.isLt; have := i.isLt; omega⟩ n)
    (ha : ∀ (p : Fin 80) (i : Fin 512), a (ix2 p i) = x4 (ix2 p ⟨512 * k.val + i.val, by have := k.isLt; have := i.isLt; omega⟩))
    (t : Fin 768) (i : Fin 512) (j : Fin 2048) (hj : j.val = 512 * k.val + i.val) :
    Pay.tile (keptG x1 x5 x6) x1 W a t i = kdx x1 x2 x3 x4 x5 x6 t j := by
  have ej : j = ⟨512 * k.val + i.val, by have := k.isLt; have := i.isLt; omega⟩ := Fin.ext hj
  unfold Pay.tile kdx
  rw [ej]
  congr 1
  · exact Finset.sum_congr rfl fun n _ => by rw [hW]
  · exact Finset.sum_congr rfl fun p _ => by rw [ha]

theorem W0 (i : Fin 512) (n : Fin 5632) :
    k0_pay21 (F := Ideal) (View.ld x3 (Rect.unit ![0, 0] ![4, 5632] inb_S16x5632_S4x5632_0_0)) (k0_pay19 (View.ld x2 (Rect.unit ![0, 0] ![256, 5632] inb_S1024x5632_S256x5632_0_0))) (k0_pay20 (View.ld x2 (Rect.unit ![0, 0] ![256, 5632] inb_S1024x5632_S256x5632_0_0))) (ix2 i n)
      = wt x2 x3 ⟨512 * 0 + i.val, by have := i.isLt; omega⟩ n :=
  (pay21_apply _ _ i n).trans (wtile_wt x2 x3 0 _ _
    (fun i n => ld2 0 0 x2 _ i n ⟨256 * 0 + i.val, by have := i.isLt; omega⟩ n (by show 256 * 0 + i.val = 0 + i.val; omega) (by omega))
    (fun g n => ld2 0 0 x3 _ g n ⟨4 * 0 + g.val, by have := g.isLt; omega⟩ n (by show 4 * 0 + g.val = 0 + g.val; omega) (by omega)) i n)

theorem dx0 (t : Fin 768) (i : Fin 512) (j : Fin 2048) (hj : j.val = 512 * 0 + i.val) :
    k0_pay22 (F := Ideal) (k0_pay16 (keptG x1 x5 x6)) x1 (k0_pay21 (F := Ideal) (View.ld x3 (Rect.unit ![0, 0] ![4, 5632] inb_S16x5632_S4x5632_0_0)) (k0_pay19 (View.ld x2 (Rect.unit ![0, 0] ![256, 5632] inb_S1024x5632_S256x5632_0_0))) (k0_pay20 (View.ld x2 (Rect.unit ![0, 0] ![256, 5632] inb_S1024x5632_S256x5632_0_0)))) (View.ld x4 (Rect.unit ![0, 0] ![80, 512] inb_S80x2048_S80x512_0_0)) (ix2 t i) = kdx x1 x2 x3 x4 x5 x6 t j :=
  (pay22_apply _ _ _ _ t i).trans (tile_kdx x1 x2 x3 x4 x5 x6 0 _ _ (W0 x2 x3)
    (fun p i => ld2 0 0 x4 _ p i p ⟨512 * 0 + i.val, by have := i.isLt; omega⟩ (by omega) (by show 512 * 0 + i.val = 0 + i.val; omega)) t i j hj)

theorem W1 (i : Fin 512) (n : Fin 5632) :
    k0_pay25 (F := Ideal) (View.ld x3 (Rect.unit ![4, 0] ![4, 5632] inb_S16x5632_S4x5632_4_0)) (k0_pay23 (View.ld x2 (Rect.unit ![256, 0] ![256, 5632] inb_S1024x5632_S256x5632_256_0))) (k0_pay24 (View.ld x2 (Rect.unit ![256, 0] ![256, 5632] inb_S1024x5632_S256x5632_256_0))) 28#32 (ix2 i n)
      = wt x2 x3 ⟨512 * 1 + i.val, by have := i.isLt; omega⟩ n :=
  (pay25_apply _ _ i n).trans (wtile_wt x2 x3 1 _ _
    (fun i n => ld2 256 0 x2 _ i n ⟨256 * 1 + i.val, by have := i.isLt; omega⟩ n (by show 256 * 1 + i.val = 256 + i.val; omega) (by omega))
    (fun g n => ld2 4 0 x3 _ g n ⟨4 * 1 + g.val, by have := g.isLt; omega⟩ n (by show 4 * 1 + g.val = 4 + g.val; omega) (by omega)) i n)

theorem dx1 (t : Fin 768) (i : Fin 512) (j : Fin 2048) (hj : j.val = 512 * 1 + i.val) :
    k0_pay26 (F := Ideal) (k0_pay16 (keptG x1 x5 x6)) x1 (k0_pay25 (F := Ideal) (View.ld x3 (Rect.unit ![4, 0] ![4, 5632] inb_S16x5632_S4x5632_4_0)) (k0_pay23 (View.ld x2 (Rect.unit ![256, 0] ![256, 5632] inb_S1024x5632_S256x5632_256_0))) (k0_pay24 (View.ld x2 (Rect.unit ![256, 0] ![256, 5632] inb_S1024x5632_S256x5632_256_0))) 28#32) (View.ld x4 (Rect.unit ![0, 512] ![80, 512] inb_S80x2048_S80x512_0_512)) (ix2 t i) = kdx x1 x2 x3 x4 x5 x6 t j :=
  (pay26_apply _ _ _ _ t i).trans (tile_kdx x1 x2 x3 x4 x5 x6 1 _ _ (W1 x2 x3)
    (fun p i => ld2 0 512 x4 _ p i p ⟨512 * 1 + i.val, by have := i.isLt; omega⟩ (by omega) (by show 512 * 1 + i.val = 512 + i.val; omega)) t i j hj)

theorem W2 (i : Fin 512) (n : Fin 5632) :
    k0_pay27 (F := Ideal) (View.ld x2 (Rect.unit ![512, 0] ![256, 5632] inb_S1024x5632_S256x5632_512_0)) (View.ld x3 (Rect.unit ![8, 0] ![4, 5632] inb_S16x5632_S4x5632_8_0)) (ix2 i n)
      = wt x2 x3 ⟨512 * 2 + i.val, by have := i.isLt; omega⟩ n :=
  (pay27_apply _ _ i n).trans (wtile_wt x2 x3 2 _ _
    (fun i n => ld2 512 0 x2 _ i n ⟨256 * 2 + i.val, by have := i.isLt; omega⟩ n (by show 256 * 2 + i.val = 512 + i.val; omega) (by omega))
    (fun g n => ld2 8 0 x3 _ g n ⟨4 * 2 + g.val, by have := g.isLt; omega⟩ n (by show 4 * 2 + g.val = 8 + g.val; omega) (by omega)) i n)

theorem dx2 (t : Fin 768) (i : Fin 512) (j : Fin 2048) (hj : j.val = 512 * 2 + i.val) :
    k0_pay30 (F := Ideal) (k0_pay16 (keptG x1 x5 x6)) (k0_pay28 x1 (k0_pay27 (F := Ideal) (View.ld x2 (Rect.unit ![512, 0] ![256, 5632] inb_S1024x5632_S256x5632_512_0)) (View.ld x3 (Rect.unit ![8, 0] ![4, 5632] inb_S16x5632_S4x5632_8_0)))) (k0_pay29 (View.ld x4 (Rect.unit ![0, 1024] ![80, 512] inb_S80x2048_S80x512_0_1024))) (constant S768x512 .f32 0#32) (ix2 t i) = kdx x1 x2 x3 x4 x5 x6 t j :=
  (pay30_apply _ _ _ _ t i).trans (tile_kdx x1 x2 x3 x4 x5 x6 2 _ _ (W2 x2 x3)
    (fun p i => ld2 0 1024 x4 _ p i p ⟨512 * 2 + i.val, by have := i.isLt; omega⟩ (by omega) (by show 512 * 2 + i.val = 1024 + i.val; omega)) t i j hj)

theorem W3 (i : Fin 512) (n : Fin 5632) :
    k0_pay31 (F := Ideal) (View.ld x2 (Rect.unit ![768, 0] ![256, 5632] inb_S1024x5632_S256x5632_768_0)) (View.ld x3 (Rect.unit ![12, 0] ![4, 5632] inb_S16x5632_S4x5632_12_0)) (ix2 i n)
      = wt x2 x3 ⟨512 * 3 + i.val, by have := i.isLt; omega⟩ n :=
  (pay31_apply _ _ i n).trans (wtile_wt x2 x3 3 _ _
    (fun i n => ld2 768 0 x2 _ i n ⟨256 * 3 + i.val, by have := i.isLt; omega⟩ n (by show 256 * 3 + i.val = 768 + i.val; omega) (by omega))
    (fun g n => ld2 12 0 x3 _ g n ⟨4 * 3 + g.val, by have := g.isLt; omega⟩ n (by show 4 * 3 + g.val = 12 + g.val; omega) (by omega)) i n)

theorem dx3 (t : Fin 768) (i : Fin 512) (j : Fin 2048) (hj : j.val = 512 * 3 + i.val) :
    k0_pay1 (F := Ideal) (k0_pay16 (keptG x1 x5 x6)) (k0_pay32 x1) (k0_pay31 (F := Ideal) (View.ld x2 (Rect.unit ![768, 0] ![256, 5632] inb_S1024x5632_S256x5632_768_0)) (View.ld x3 (Rect.unit ![12, 0] ![4, 5632] inb_S16x5632_S4x5632_12_0))) (View.ld x4 (Rect.unit ![0, 1536] ![80, 512] inb_S80x2048_S80x512_0_1536)) (ix2 t i) = kdx x1 x2 x3 x4 x5 x6 t j :=
  (pay1_apply _ _ _ _ t i).trans (tile_kdx x1 x2 x3 x4 x5 x6 3 _ _ (W3 x2 x3)
    (fun p i => ld2 0 1536 x4 _ p i p ⟨512 * 3 + i.val, by have := i.isLt; omega⟩ (by omega) (by show 512 * 3 + i.val = 1536 + i.val; omega)) t i j hj)

end Cert.KernelIdeal.Block

end
-- ==== Proof.Arrays.lean ====
/- What the call's windows hold. The grid has one point, and every window is one block, the whole of its array:
   after the call an output array holds what the body left in its staging buffer, and an input block is its array
   as the call found it. -/
module

public import proofs.«01_k».proof.Proof.Gen.KernelIdeal.Frame
public import Idealize.ShloMosaic.Lib.Pipeline.Value
public import Idealize.ShloMosaic.Lib.Pipeline.ValueKit.Geometry
public import proofs.«01_k».proof.Proof.Block

@[expose] public section

set_option maxRecDepth 16384

noncomputable section

namespace Cert.KernelIdeal.Arrays

open Cert.KernelIdeal Cert.KernelIdeal.Gen Idealize.ShloMosaic Idealize.ShloMosaic.TcCoe
open Idealize.ShloMosaic.Pipeline (Dat Cfg Window)

variable (m : (ℓ : Loc nD τ sig) → Buf (Elt Ideal) ℓ) (c : Dev nD)

/-! ## The output arrays after the call -/

theorem arr7 (j : S768x2048.Idx) : (dats m 0 c).arrAt 7 cfg0.N j = (outsAt0 m c t0_0).1 j := by
  refine ((dats m 0 c).arrAt_emb_eq_after_last 7 t0_0 (by decide +kernel) j).trans ?_
  rw [after0_7]; rfl
theorem arr8 (j : S80x2048.Idx) : (dats m 0 c).arrAt 8 cfg0.N j = (outsAt0 m c t0_0).2.1 j := by
  refine ((dats m 0 c).arrAt_emb_eq_after_last 8 t0_0 (by decide +kernel) j).trans ?_
  rw [after0_8]; rfl
theorem arr9 (j : S80x5632.Idx) : (dats m 0 c).arrAt 9 cfg0.N j = (outsAt0 m c t0_0).2.2.1 j := by
  refine ((dats m 0 c).arrAt_emb_eq_after_last 9 t0_0 (by decide +kernel) j).trans ?_
  rw [after0_9]; rfl
theorem arr10 (j : S3x16x256.Idx) : (dats m 0 c).arrAt 10 cfg0.N j = (outsAt0 m c t0_0).2.2.2.1 j := by
  refine ((dats m 0 c).arrAt_emb_eq_after_last 10 t0_0 (by decide +kernel) j).trans ?_
  rw [after0_10]; rfl
theorem arr11 (j : S3x16x256.Idx) : (dats m 0 c).arrAt 11 cfg0.N j = (outsAt0 m c t0_0).2.2.2.2 j := by
  refine ((dats m 0 c).arrAt_emb_eq_after_last 11 t0_0 (by decide +kernel) j).trans ?_
  rw [after0_11]; rfl

/-! ## The input blocks -/

theorem blk0 (t : Fin cfg0.N) (y : S768x2048.Idx) : iblk m c 0 t y = V m c main_v0 y := by
  unfold iblk
  show V m c main_v0 _ = _
  congr 1; funext a; apply Fin.ext
  exact Window.rect_emb_val_of_index_zero win0_0 t a rfl y
theorem blk1 (t : Fin cfg0.N) (y : S768x5632.Idx) : iblk m c 1 t y = V m c main_v1 y := by
  unfold iblk
  show V m c main_v1 _ = _
  congr 1; funext a; apply Fin.ext
  exact Window.rect_emb_val_of_index_zero win0_1 t a rfl y
theorem blk2 (t : Fin cfg0.N) (y : S1024x5632.Idx) : iblk m c 2 t y = V m c main_arg2 y := by
  unfold iblk
  show V m c main_arg2 _ = _
  congr 1; funext a; apply Fin.ext
  exact Window.rect_emb_val_of_index_zero win0_2 t a rfl y
theorem blk3 (t : Fin cfg0.N) (y : S16x5632.Idx) : iblk m c 3 t y = V m c main_arg3 y := by
  unfold iblk
  show V m c main_arg3 _ = _
  congr 1; funext a; apply Fin.ext
  exact Window.rect_emb_val_of_index_zero win0_3 t a rfl y
theorem blk4 (t : Fin cfg0.N) (y : S80x2048.Idx) : iblk m c 4 t y = V m c main_v3 y := by
  unfold iblk
  show V m c main_v3 _ = _
  congr 1; funext a; apply Fin.ext
  exact Window.rect_emb_val_of_index_zero win0_4 t a rfl y
theorem blk5 (t : Fin cfg0.N) (y : S80x5632.Idx) : iblk m c 5 t y = V m c main_v4 y := by
  unfold iblk
  show V m c main_v4 _ = _
  congr 1; funext a; apply Fin.ext
  exact Window.rect_emb_val_of_index_zero win0_5 t a rfl y
theorem blk6 (t : Fin cfg0.N) (y : S3x256.Idx) : iblk m c 6 t y = V m c main_arg6 y := by
  unfold iblk
  show V m c main_arg6 _ = _
  congr 1; funext a; apply Fin.ext
  exact Window.rect_emb_val_of_index_zero win0_6 t a rfl y

end Cert.KernelIdeal.Arrays
-- ==== Proof.Layout.lean ====
/- The layouts on both sides of the call, each read at one index: a token's row of a batch, an adapter's row of the
   stack of adapters, and back. -/
module

public import proofs.«01_k».proof.Proof.Arrays

@[expose] public section

set_option maxRecDepth 16384

noncomputable section

namespace Cert.KernelIdeal.Layout

open Cert.KernelIdeal Cert.KernelIdeal.Gen Idealize.ShloMosaic
open Cert.Spec

theorem flat_x (x : FVec Idealize.ShloMosaic.Ideal S3x256x2048 .bf16) (t : Fin 768) (k : Fin 2048) :
    shapeCast S768x2048 x shapeCasts_S3x256x2048_S768x2048 (ix2 t k) = x (ix3 (row t) (pos t) k) := by
  pointwise
  rfl
theorem flat_dy (x : FVec Idealize.ShloMosaic.Ideal S3x256x5632 .bf16) (t : Fin 768) (k : Fin 5632) :
    shapeCast S768x5632 x shapeCasts_S3x256x5632_S768x5632 (ix2 t k) = x (ix3 (row t) (pos t) k) := by
  pointwise
  rfl
theorem stack_a (x : FVec Idealize.ShloMosaic.Ideal S5x2048x16 .bf16) (p : Fin 80) (k : Fin 2048) :
    shapeCast S80x2048 (transpose S5x16x2048 [0, 2, 1] x transposes_S5x2048x16_S5x16x2048_0_2_1) shapeCasts_S5x16x2048_S80x2048 (ix2 p k) = x (ix3 (adp p) k (rk p)) := by
  pointwise
  rfl
theorem stack_b (x : FVec Idealize.ShloMosaic.Ideal S5x16x5632 .bf16) (p : Fin 80) (k : Fin 5632) :
    shapeCast S80x5632 x shapeCasts_S5x16x5632_S80x5632 (ix2 p k) = x (ix3 (adp p) (rk p) k) := by
  pointwise
  rfl
theorem fold_dx (x : FVec Idealize.ShloMosaic.Ideal S768x2048 .bf16) (i : Fin 3) (j : Fin 256) (k : Fin 2048) :
    shapeCast S3x256x2048 x shapeCasts_S768x2048_S3x256x2048 (ix3 i j k) = x (ix2 (tok i j) k) := by
  pointwise
  rfl
theorem unstack_a (x : FVec Idealize.ShloMosaic.Ideal S80x2048 .f32) (e : Fin 5) (j : Fin 2048) (r : Fin 16) :
    transpose S5x2048x16 [0, 2, 1] (shapeCast S5x16x2048 x shapeCasts_S80x2048_S5x16x2048) transposes_S5x16x2048_S5x2048x16_0_2_1 (ix3 e j r) = x (ix2 (stk e r) j) := by
  pointwise
  rfl
theorem unstack_b (x : FVec Idealize.ShloMosaic.Ideal S80x5632 .f32) (e : Fin 5) (r : Fin 16) (n : Fin 5632) :
    shapeCast S5x16x5632 x shapeCasts_S80x5632_S5x16x5632 (ix3 e r n) = x (ix2 (stk e r) n) := by
  pointwise
  rfl
theorem swap_g (x : FVec Idealize.ShloMosaic.Ideal S3x16x256 .bf16) (i : Fin 3) (s : Fin 256) (r : Fin 16) :
    transpose S3x256x16 [0, 2, 1] x transposes_S3x16x256_S3x256x16_0_2_1 (ix3 i s r) = x (ix3 i r s) := by
  pointwise

end Cert.KernelIdeal.Layout
-- ==== Proof.Host.lean ====
/- The host lines around the call. Before it, the inputs are laid out as the kernel wants them: tokens in one row
   each, adapters stacked. After it, the results are laid out as the problem wants them. Each array is read at one
   index. -/
module

public import proofs.«01_k».proof.Proof.Layout

@[expose] public section

set_option maxRecDepth 16384

noncomputable section

namespace Cert.KernelIdeal.Host

open Cert.KernelIdeal Cert.KernelIdeal.Gen Cert.KernelIdeal.Arrays Cert.KernelIdeal.Layout
open Idealize.ShloMosaic Idealize.ShloMosaic.TcCoe
open Cert.Spec

variable (m : (ℓ : Loc nD τ sig) → Buf (Elt Idealize.ShloMosaic.Ideal) ℓ) (c : Dev nD)

/-! ## Before the call -/

theorem in0 (q : Fin cfg0.N) (t : Fin 768) (k : Fin 2048) :
    iblk m c 0 q (ix2 t k) = m ((c.tc : Thread nD τ).loc main_arg0) (ix3 (row t) (pos t) k) := by
  have e : V m c main_v0 = shapeCast S768x2048 (m ((c.tc : Thread nD τ).loc main_arg0)) shapeCasts_S3x256x2048_S768x2048 := by
    show StableHlo.after (List.flatten [hostOps0]) (fun b => m (c, b)) (Proc.devRef .tc main_v0) = _
    simp only [hostOps0, List.flatten_cons, List.flatten_nil, List.append_nil, List.cons_append, List.nil_append]
    after_results
    rfl
  rw [blk0, e]
  exact flat_x _ _ _
theorem in1 (q : Fin cfg0.N) (t : Fin 768) (k : Fin 5632) :
    iblk m c 1 q (ix2 t k) = m ((c.tc : Thread nD τ).loc main_arg1) (ix3 (row t) (pos t) k) := by
  have e : V m c main_v1 = shapeCast S768x5632 (m ((c.tc : Thread nD τ).loc main_arg1)) shapeCasts_S3x256x5632_S768x5632 := by
    show StableHlo.after (List.flatten [hostOps0]) (fun b => m (c, b)) (Proc.devRef .tc main_v1) = _
    simp only [hostOps0, List.flatten_cons, List.flatten_nil, List.append_nil, List.cons_append, List.nil_append]
    after_results
    rfl
  rw [blk1, e]
  exact flat_dy _ _ _
theorem in2 (q : Fin cfg0.N) (y : S1024x5632.Idx) :
    iblk m c 2 q y = m ((c.tc : Thread nD τ).loc main_arg2) y := by
  rw [blk2, V_main_arg2]
theorem in3 (q : Fin cfg0.N) (y : S16x5632.Idx) :
    iblk m c 3 q y = m ((c.tc : Thread nD τ).loc main_arg3) y := by
  rw [blk3, V_main_arg3]
theorem in6 (q : Fin cfg0.N) (y : S3x256.Idx) :
    iblk m c 6 q y = m ((c.tc : Thread nD τ).loc main_arg6) y := by
  rw [blk6, V_main_arg6]
theorem in4 (q : Fin cfg0.N) (p : Fin 80) (k : Fin 2048) :
    iblk m c 4 q (ix2 p k) = m ((c.tc : Thread nD τ).loc main_arg4) (ix3 (adp p) k (rk p)) := by
  have e : V m c main_v3 = shapeCast S80x2048 (transpose S5x16x2048 [0, 2, 1] (m ((c.tc : Thread nD τ).loc main_arg4)) transposes_S5x2048x16_S5x16x2048_0_2_1) shapeCasts_S5x16x2048_S80x2048 := by
    show StableHlo.after (List.flatten [hostOps0]) (fun b => m (c, b)) (Proc.devRef .tc main_v3) = _
    simp only [hostOps0, List.flatten_cons, List.flatten_nil, List.append_nil, List.cons_append, List.nil_append]
    after_results
    rfl
  rw [blk4, e]
  exact stack_a _ _ _
theorem in5 (q : Fin cfg0.N) (p : Fin 80) (k : Fin 5632) :
    iblk m c 5 q (ix2 p k) = m ((c.tc : Thread nD τ).loc main_arg5) (ix3 (adp p) (rk p) k) := by
  have e : V m c main_v4 = shapeCast S80x5632 (m ((c.tc : Thread nD τ).loc main_arg5)) shapeCasts_S5x16x5632_S80x5632 := by
    show StableHlo.after (List.flatten [hostOps0]) (fun b => m (c, b)) (Proc.devRef .tc main_v4) = _
    simp only [hostOps0, List.flatten_cons, List.flatten_nil, List.append_nil, List.cons_append, List.nil_append]
    after_results
    rfl
  rw [blk5, e]
  exact stack_b _ _ _

/-- The call's arrays are distinct. -/
theorem inj0 : Function.Injective (Pipeline.arrRef spec0) := by decide

/-! ## After the call -/

theorem out7 (i : Fin 3) (j : Fin 256) (k : Fin 2048) :
    Pipeline.afterTail₀ cfgs (dats m) 0 (V0 m) [hostOps1] c main_v6 (ix3 i j k) = (dats m 0 c).arrAt 7 cfg0.N (ix2 (tok i j) k) := by
  have e : Pipeline.afterTail₀ cfgs (dats m) 0 (V0 m) [hostOps1] c main_v6 = shapeCast S3x256x2048 ((dats m 0 c).arrAt 7 cfg0.N) shapeCasts_S768x2048_S3x256x2048 := by
    unfold Pipeline.afterTail₀
    simp only [hostOps1, List.flatten_cons, List.flatten_nil, List.append_nil, List.cons_append, List.nil_append]
    after_results
    exact congrArg (fun z => shapeCast S3x256x2048 z shapeCasts_S768x2048_S3x256x2048) (Pipeline.withArrays_arr spec0 inj0 c (V0 m c) (fun w => (dats m 0 c).arrAt w cfg0.N) 7)
  rw [e]
  exact fold_dx _ _ _ _
theorem out8 (e : Fin 5) (j : Fin 2048) (r : Fin 16) :
    Pipeline.afterTail₀ cfgs (dats m) 0 (V0 m) [hostOps1] c main_v8 (ix3 e j r) = (dats m 0 c).arrAt 8 cfg0.N (ix2 (stk e r) j) := by
  have e : Pipeline.afterTail₀ cfgs (dats m) 0 (V0 m) [hostOps1] c main_v8 = transpose S5x2048x16 [0, 2, 1] (shapeCast S5x16x2048 ((dats m 0 c).arrAt 8 cfg0.N) shapeCasts_S80x2048_S5x16x2048) transposes_S5x16x2048_S5x2048x16_0_2_1 := by
    unfold Pipeline.afterTail₀
    simp only [hostOps1, List.flatten_cons, List.flatten_nil, List.append_nil, List.cons_append, List.nil_append]
    after_results
    exact congrArg (fun z => transpose S5x2048x16 [0, 2, 1] (shapeCast S5x16x2048 z shapeCasts_S80x2048_S5x16x2048) transposes_S5x16x2048_S5x2048x16_0_2_1) (Pipeline.withArrays_arr spec0 inj0 c (V0 m c) (fun w => (dats m 0 c).arrAt w cfg0.N) 8)
  rw [e]
  exact unstack_a _ _ _ _
theorem out9 (e : Fin 5) (r : Fin 16) (n : Fin 5632) :
    Pipeline.afterTail₀ cfgs (dats m) 0 (V0 m) [hostOps1] c main_v9 (ix3 e r n) = (dats m 0 c).arrAt 9 cfg0.N (ix2 (stk e r) n) := by
  have e : Pipeline.afterTail₀ cfgs (dats m) 0 (V0 m) [hostOps1] c main_v9 = shapeCast S5x16x5632 ((dats m 0 c).arrAt 9 cfg0.N) shapeCasts_S80x5632_S5x16x5632 := by
    unfold Pipeline.afterTail₀
    simp only [hostOps1, List.flatten_cons, List.flatten_nil, List.append_nil, List.cons_append, List.nil_append]
    after_results
    exact congrArg (fun z => shapeCast S5x16x5632 z shapeCasts_S80x5632_S5x16x5632) (Pipeline.withArrays_arr spec0 inj0 c (V0 m c) (fun w => (dats m 0 c).arrAt w cfg0.N) 9)
  rw [e]
  exact unstack_b _ _ _ _
theorem out10 (i : Fin 3) (s : Fin 256) (r : Fin 16) :
    Pipeline.afterTail₀ cfgs (dats m) 0 (V0 m) [hostOps1] c main_v10 (ix3 i s r) = (dats m 0 c).arrAt 10 cfg0.N (ix3 i r s) := by
  have e : Pipeline.afterTail₀ cfgs (dats m) 0 (V0 m) [hostOps1] c main_v10 = transpose S3x256x16 [0, 2, 1] ((dats m 0 c).arrAt 10 cfg0.N) transposes_S3x16x256_S3x256x16_0_2_1 := by
    unfold Pipeline.afterTail₀
    simp only [hostOps1, List.flatten_cons, List.flatten_nil, List.append_nil, List.cons_append, List.nil_append]
    after_results
    exact congrArg (fun z => transpose S3x256x16 [0, 2, 1] z transposes_S3x16x256_S3x256x16_0_2_1) (Pipeline.withArrays_arr spec0 inj0 c (V0 m c) (fun w => (dats m 0 c).arrAt w cfg0.N) 10)
  rw [e]
  exact swap_g _ _ _ _
theorem out11 (i : Fin 3) (s : Fin 256) (r : Fin 16) :
    Pipeline.afterTail₀ cfgs (dats m) 0 (V0 m) [hostOps1] c main_v11 (ix3 i s r) = (dats m 0 c).arrAt 11 cfg0.N (ix3 i r s) := by
  have e : Pipeline.afterTail₀ cfgs (dats m) 0 (V0 m) [hostOps1] c main_v11 = transpose S3x256x16 [0, 2, 1] ((dats m 0 c).arrAt 11 cfg0.N) transposes_S3x16x256_S3x256x16_0_2_1 := by
    unfold Pipeline.afterTail₀
    simp only [hostOps1, List.flatten_cons, List.flatten_nil, List.append_nil, List.cons_append, List.nil_append]
    after_results
    exact congrArg (fun z => transpose S3x256x16 [0, 2, 1] z transposes_S3x16x256_S3x256x16_0_2_1) (Pipeline.withArrays_arr spec0 inj0 c (V0 m c) (fun w => (dats m 0 c).arrAt w cfg0.N) 11)
  rw [e]
  exact swap_g _ _ _ _

end Cert.KernelIdeal.Host
-- ==== Proof.Open.lean ====
/-
  What one visit of the kernel leaves in each output block, as a function of the input blocks, read at one index.
-/
module

public import proofs.«01_k».proof.Proof.Gen.KernelIdeal.Frame
public import Idealize.ShloMosaic.Lib.Pipeline.Value
public import Idealize.ShloMosaic.Lib.Pipeline.ValueKit.Tiles
public import Idealize.ShloMosaic.Lib.Pipeline.ValueKit.Acc
public import proofs.«01_k».proof.Proof.Block

@[expose] public section

set_option maxRecDepth 16384

noncomputable section

namespace Cert.KernelIdeal.Open

open Cert.KernelIdeal Cert.KernelIdeal.Gen Idealize.ShloMosaic Idealize.ShloMosaic.TcCoe Idealize.SL.Sem Idealize.ShloMosaic.Tactic
open Idealize.ShloMosaic.Pipeline (Dat)
open Cert.Spec Cert.KernelIdeal.Block

variable (m : (ℓ : Loc nD τ sig) → Buf (Elt Ideal) ℓ)

set_option maxHeartbeats 1000000 in
theorem o7 (c : Dev nD) (t : Fin cfg0.N) (y : S768x2048.Idx) :
    (outsAt0 m c t).1 y = kdx (iblk m c 1 t) (iblk m c 2 t) (iblk m c 3 t) (iblk m c 4 t) (iblk m c 5 t) (iblk m c 6 t) (y 0) (y 1) := by
  unfold outsAt0 out0_A_7
  dsimp only
  rw [View.read_writes_eq_canon _ _ _ (cover0_A_7 c _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  generalize iblk m c 0 t = x0
  generalize iblk m c 1 t = x1
  generalize iblk m c 2 t = x2
  generalize iblk m c 3 t = x3
  generalize iblk m c 4 t = x4
  generalize iblk m c 5 t = x5
  generalize iblk m c 6 t = x6
  canon_tiles x h
  all_goals rw [View.readCov_cons_unit_lit' _ _ _ _ _ (by decide) (by decide)]
  all_goals rw [show View.ld (S := S768x5632) x1 (Rect.unit ![0, 0] ![768, 5632] inb_S768x5632_S768x5632_0_0) = x1 from View.ld_unit_lit (S := S768x5632) _ x1 (by decide), show View.ld (S := S80x5632) x5 (Rect.unit ![0, 0] ![80, 5632] inb_S80x5632_S80x5632_0_0) = x5 from View.ld_unit_lit (S := S80x5632) _ x5 (by decide)]
  all_goals rw [ValueIdx.eq_ix2 x]
  all_goals rw [show y 0 = x 0 from Fin.ext h0]
  · exact dx3 x1 x2 x3 x4 x5 x6 (x 0) (x 1) (y 1) h1
  · exact dx2 x1 x2 x3 x4 x5 x6 (x 0) (x 1) (y 1) h1
  · exact dx1 x1 x2 x3 x4 x5 x6 (x 0) (x 1) (y 1) h1
  · exact dx0 x1 x2 x3 x4 x5 x6 (x 0) (x 1) (y 1) (by omega)

set_option maxHeartbeats 1000000 in
theorem o8 (c : Dev nD) (t : Fin cfg0.N) (y : S80x2048.Idx) :
    (outsAt0 m c t).2.1 y = ∑ q : Fin 768, keptG (iblk m c 1 t) (iblk m c 5 t) (iblk m c 6 t) (ix2 (y 0) q) * (iblk m c 0 t) (ix2 q (y 1)) := by
  unfold outsAt0 out0_A_8
  dsimp only
  rw [View.read_writes_eq_canon _ _ _ (cover0_A_8 c _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  generalize iblk m c 0 t = x0
  generalize iblk m c 1 t = x1
  generalize iblk m c 2 t = x2
  generalize iblk m c 3 t = x3
  generalize iblk m c 4 t = x4
  generalize iblk m c 5 t = x5
  generalize iblk m c 6 t = x6
  rw [View.canon_cons_unit_lit _ _ _ (by decide), show View.ld (S := S768x2048) x0 (Rect.unit ![0, 0] ![768, 2048] inb_S768x2048_S768x2048_0_0) = x0 from View.ld_unit_lit (S := S768x2048) _ x0 (by decide), show View.ld (S := S768x5632) x1 (Rect.unit ![0, 0] ![768, 5632] inb_S768x5632_S768x5632_0_0) = x1 from View.ld_unit_lit (S := S768x5632) _ x1 (by decide), show View.ld (S := S80x5632) x5 (Rect.unit ![0, 0] ![80, 5632] inb_S80x5632_S80x5632_0_0) = x5 from View.ld_unit_lit (S := S80x5632) _ x5 (by decide), ValueIdx.eq_ix2 y]
  exact Pay.pay17_apply _ _ _ _

set_option maxHeartbeats 1000000 in
theorem o9 (c : Dev nD) (t : Fin cfg0.N) (y : S80x5632.Idx) :
    (outsAt0 m c t).2.2.1 y = ∑ q : Fin 768, keptX (iblk m c 0 t) (iblk m c 4 t) (iblk m c 6 t) (ix2 (y 0) q) * (iblk m c 1 t) (ix2 q (y 1)) := by
  unfold outsAt0 out0_A_9
  dsimp only
  rw [View.read_writes_eq_canon _ _ _ (cover0_A_9 c _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  generalize iblk m c 0 t = x0
  generalize iblk m c 1 t = x1
  generalize iblk m c 2 t = x2
  generalize iblk m c 3 t = x3
  generalize iblk m c 4 t = x4
  generalize iblk m c 5 t = x5
  generalize iblk m c 6 t = x6
  rw [View.canon_cons_unit_lit _ _ _ (by decide), show View.ld (S := S768x2048) x0 (Rect.unit ![0, 0] ![768, 2048] inb_S768x2048_S768x2048_0_0) = x0 from View.ld_unit_lit (S := S768x2048) _ x0 (by decide), show View.ld (S := S768x5632) x1 (Rect.unit ![0, 0] ![768, 5632] inb_S768x5632_S768x5632_0_0) = x1 from View.ld_unit_lit (S := S768x5632) _ x1 (by decide), show View.ld (S := S80x2048) x4 (Rect.unit ![0, 0] ![80, 2048] inb_S80x2048_S80x2048_0_0) = x4 from View.ld_unit_lit (S := S80x2048) _ x4 (by decide), ValueIdx.eq_ix2 y]
  exact Pay.pay9_apply _ _ _ _

set_option maxHeartbeats 1000000 in
theorem o10 (c : Dev nD) (t : Fin cfg0.N) (y : S3x16x256.Idx) :
    (outsAt0 m c t).2.2.2.1 y = Pay.bands (keptG (iblk m c 1 t) (iblk m c 5 t) (iblk m c 6 t)) (y 1) (tok (y 0) (y 2)) := by
  unfold outsAt0 out0_A_10
  dsimp only
  rw [View.read_writes_eq_canon _ _ _ (cover0_A_10 c _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  generalize iblk m c 0 t = x0
  generalize iblk m c 1 t = x1
  generalize iblk m c 2 t = x2
  generalize iblk m c 3 t = x3
  generalize iblk m c 4 t = x4
  generalize iblk m c 5 t = x5
  generalize iblk m c 6 t = x6
  canon_tiles x h
  all_goals rw [show View.ld (S := S768x5632) x1 (Rect.unit ![0, 0] ![768, 5632] inb_S768x5632_S768x5632_0_0) = x1 from View.ld_unit_lit (S := S768x5632) _ x1 (by decide), show View.ld (S := S80x5632) x5 (Rect.unit ![0, 0] ![80, 5632] inb_S80x5632_S80x5632_0_0) = x5 from View.ld_unit_lit (S := S80x5632) _ x5 (by decide)]
  all_goals rw [ValueIdx.eq_ix3 x, show y 1 = x 1 from Fin.ext h1, show y 2 = x 2 from Fin.ext h2]
  · rw [show y 0 = (2 : Fin 3) from Fin.ext (by show (y 0).val = 2; omega)]
    exact Pay.pay15_apply _ _ _ _ _ _
  · rw [show y 0 = (1 : Fin 3) from Fin.ext (by show (y 0).val = 1; omega)]
    exact Pay.pay14_apply _ _ _ _ _ _
  · rw [show y 0 = (0 : Fin 3) from Fin.ext (by show (y 0).val = 0; omega)]
    exact Pay.pay13_apply _ _ _ _ _ _

set_option maxHeartbeats 1000000 in
theorem o11 (c : Dev nD) (t : Fin cfg0.N) (y : S3x16x256.Idx) :
    (outsAt0 m c t).2.2.2.2 y = Pay.bands (keptX (iblk m c 0 t) (iblk m c 4 t) (iblk m c 6 t)) (y 1) (tok (y 0) (y 2)) := by
  unfold outsAt0 out0_A_11
  dsimp only
  rw [View.read_writes_eq_canon _ _ _ (cover0_A_11 c _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  generalize iblk m c 0 t = x0
  generalize iblk m c 1 t = x1
  generalize iblk m c 2 t = x2
  generalize iblk m c 3 t = x3
  generalize iblk m c 4 t = x4
  generalize iblk m c 5 t = x5
  generalize iblk m c 6 t = x6
  canon_tiles x h
  all_goals rw [show View.ld (S := S768x2048) x0 (Rect.unit ![0, 0] ![768, 2048] inb_S768x2048_S768x2048_0_0) = x0 from View.ld_unit_lit (S := S768x2048) _ x0 (by decide), show View.ld (S := S80x2048) x4 (Rect.unit ![0, 0] ![80, 2048] inb_S80x2048_S80x2048_0_0) = x4 from View.ld_unit_lit (S := S80x2048) _ x4 (by decide)]
  all_goals rw [ValueIdx.eq_ix3 x, show y 1 = x 1 from Fin.ext h1, show y 2 = x 2 from Fin.ext h2]
  · rw [show y 0 = (2 : Fin 3) from Fin.ext (by show (y 0).val = 2; omega)]
    exact Pay.pay8_apply _ _ _ _ _ _ _ _
  · rw [show y 0 = (1 : Fin 3) from Fin.ext (by show (y 0).val = 1; omega)]
    exact Pay.pay7_apply _ _ _ _ _ _ _ _
  · rw [show y 0 = (0 : Fin 3) from Fin.ext (by show (y 0).val = 0; omega)]
    exact Pay.pay6_apply _ _ _ _ _ _ _ _

end Cert.KernelIdeal.Open

end
-- ==== Proof.KernelRun.lean ====
/- The kernel program's run: every result array ends holding the function of the arguments that Spec.lean states,
   at every index, and the arguments end unchanged. -/
module

public import proofs.«01_k».proof.Proof.Host
public import proofs.«01_k».proof.Proof.Open

@[expose] public section

set_option maxRecDepth 16384

noncomputable section

namespace Cert.KernelIdeal.KernelRun

open Cert.KernelIdeal Cert.KernelIdeal.Gen Cert.KernelIdeal.Block
open Idealize.ShloMosaic Idealize.ShloMosaic.TcCoe Idealize.SL.Sem
open Cert.Spec

/-! ## From the blocks to the arguments -/

variable {X : A3 3 256 2048} {DY : A3 3 256 5632} {W : I2 8 1024 5632} {S : A2 16 5632} {A : A3 5 2048 16} {B : A3 5 16 5632}
  {IDS : I2 32 3 256}
  {x0 : FVec Idealize.ShloMosaic.Ideal S768x2048 .bf16} {x1 : FVec Idealize.ShloMosaic.Ideal S768x5632 .bf16}
  {x2 : IVec S1024x5632 8} {x3 : FVec Idealize.ShloMosaic.Ideal S16x5632 .bf16}
  {x4 : FVec Idealize.ShloMosaic.Ideal S80x2048 .bf16} {x5 : FVec Idealize.ShloMosaic.Ideal S80x5632 .bf16} {x6 : IVec S3x256 32}

theorem keptG_spec (h1 : ∀ t k, x1 (ix2 t k) = DY (ix3 (row t) (pos t) k)) (h5 : ∀ p k, x5 (ix2 p k) = B (ix3 (adp p) (rk p) k))
    (h6 : ∀ y, x6 y = IDS y) (p : Fin 80) (t : Fin 768) :
    keptG x1 x5 x6 (ix2 p t) = keep IDS (gAll DY B) t (adp p) (rk p) := by
  rw [keptG_apply, h6]; unfold keep gAll
  simp only [h1, h5]

theorem keptX_spec (h0 : ∀ t k, x0 (ix2 t k) = X (ix3 (row t) (pos t) k)) (h4 : ∀ p k, x4 (ix2 p k) = A (ix3 (adp p) k (rk p)))
    (h6 : ∀ y, x6 y = IDS y) (p : Fin 80) (t : Fin 768) :
    keptX x0 x4 x6 (ix2 p t) = keep IDS (xaAll X A) t (adp p) (rk p) := by
  rw [keptX_apply, h6]; unfold keep xaAll
  simp only [h0, h4]

theorem kdx_spec (h1 : ∀ t k, x1 (ix2 t k) = DY (ix3 (row t) (pos t) k)) (h2 : ∀ y, x2 y = W y) (h3 : ∀ y, x3 y = S y)
    (h4 : ∀ p k, x4 (ix2 p k) = A (ix3 (adp p) k (rk p))) (h5 : ∀ p k, x5 (ix2 p k) = B (ix3 (adp p) (rk p) k))
    (h6 : ∀ y, x6 y = IDS y) (t : Fin 768) (j : Fin 2048) :
    kdx x1 x2 x3 x4 x5 x6 t j = dx DY W S A B IDS t j := by
  unfold kdx dx
  obtain rfl : x2 = W := funext h2
  obtain rfl : x3 = S := funext h3
  refine congrArg₂ (· + ·) (Finset.sum_congr rfl fun n _ => ?_) (Finset.sum_congr rfl fun p _ => ?_)
  · rw [h1]
  · rw [keptG_spec h1 h5 h6, h4]

theorem bands_spec {G : FVec Idealize.ShloMosaic.Ideal S80x768 .f32} {f : Fin 768 → Fin 5 → Fin 16 → EReal}
    (hG : ∀ p t, G (ix2 p t) = keep IDS f t (adp p) (rk p)) (r : Fin 16) (t : Fin 768) : Pay.bands G r t = own IDS f t r := by
  unfold Pay.bands own
  simp only [hG, adp_stk, rk_stk]

/-! ## The results -/

variable (m : (ℓ : Loc nD τ sig) → Buf (Elt Idealize.ShloMosaic.Ideal) ℓ) (c : Dev nD)

/-- The arguments, as plain functions. -/
abbrev aX : A3 3 256 2048 := m ((c.tc : Thread nD τ).loc main_arg0)
abbrev aDY : A3 3 256 5632 := m ((c.tc : Thread nD τ).loc main_arg1)
abbrev aW : I2 8 1024 5632 := m ((c.tc : Thread nD τ).loc main_arg2)
abbrev aS : A2 16 5632 := m ((c.tc : Thread nD τ).loc main_arg3)
abbrev aA : A3 5 2048 16 := m ((c.tc : Thread nD τ).loc main_arg4)
abbrev aB : A3 5 16 5632 := m ((c.tc : Thread nD τ).loc main_arg5)
abbrev aI : I2 32 3 256 := m ((c.tc : Thread nD τ).loc main_arg6)

theorem res6 (y : S3x256x2048.Idx) : Pipeline.afterTail₀ cfgs (dats m) 0 (V0 m) [hostOps1] c main_v6 y
    = dx (aDY m c) (aW m c) (aS m c) (aA m c) (aB m c) (aI m c) (tok (y 0) (y 1)) (y 2) := by
  obtain ⟨i, j, k, rfl⟩ : ∃ i j k, y = ix3 i j k := ⟨y 0, y 1, y 2, ValueIdx.eq_ix3 y⟩
  refine (Host.out7 m c i j k).trans ((Arrays.arr7 m c _).trans ((Open.o7 m c t0_0 _).trans ?_))
  exact kdx_spec (Host.in1 m c t0_0) (Host.in2 m c t0_0) (Host.in3 m c t0_0) (Host.in4 m c t0_0) (Host.in5 m c t0_0) (Host.in6 m c t0_0) _ _

theorem res8 (y : S5x2048x16.Idx) : Pipeline.afterTail₀ cfgs (dats m) 0 (V0 m) [hostOps1] c main_v8 y
    = dA (aX m c) (aDY m c) (aB m c) (aI m c) (y 0) (y 1) (y 2) := by
  obtain ⟨i, j, k, rfl⟩ : ∃ i j k, y = ix3 i j k := ⟨y 0, y 1, y 2, ValueIdx.eq_ix3 y⟩
  refine (Host.out8 m c i j k).trans ((Arrays.arr8 m c _).trans ((Open.o8 m c t0_0 _).trans ?_))
  refine Finset.sum_congr rfl fun t _ => congrArg₂ (· * ·) ((keptG_spec (Host.in1 m c t0_0) (Host.in5 m c t0_0) (Host.in6 m c t0_0) _ t).trans ?_) (Host.in0 m c t0_0 t _)
  show keep _ _ t (adp (stk i k)) (rk (stk i k)) = _
  rw [adp_stk, rk_stk]; rfl

theorem res9 (y : S5x16x5632.Idx) : Pipeline.afterTail₀ cfgs (dats m) 0 (V0 m) [hostOps1] c main_v9 y
    = dB (aX m c) (aDY m c) (aA m c) (aI m c) (y 0) (y 1) (y 2) := by
  obtain ⟨i, j, k, rfl⟩ : ∃ i j k, y = ix3 i j k := ⟨y 0, y 1, y 2, ValueIdx.eq_ix3 y⟩
  refine (Host.out9 m c i j k).trans ((Arrays.arr9 m c _).trans ((Open.o9 m c t0_0 _).trans ?_))
  refine Finset.sum_congr rfl fun t _ => congrArg₂ (· * ·) ((keptX_spec (Host.in0 m c t0_0) (Host.in4 m c t0_0) (Host.in6 m c t0_0) _ t).trans ?_) (Host.in1 m c t0_0 t _)
  show keep _ _ t (adp (stk i j)) (rk (stk i j)) = _
  rw [adp_stk, rk_stk]; rfl

theorem res10 (y : S3x256x16.Idx) : Pipeline.afterTail₀ cfgs (dats m) 0 (V0 m) [hostOps1] c main_v10 y
    = own (aI m c) (gAll (aDY m c) (aB m c)) (tok (y 0) (y 1)) (y 2) := by
  obtain ⟨i, j, k, rfl⟩ : ∃ i j k, y = ix3 i j k := ⟨y 0, y 1, y 2, ValueIdx.eq_ix3 y⟩
  refine (Host.out10 m c i j k).trans ((Arrays.arr10 m c _).trans ((Open.o10 m c t0_0 _).trans ?_))
  exact bands_spec (keptG_spec (Host.in1 m c t0_0) (Host.in5 m c t0_0) (Host.in6 m c t0_0)) _ _

theorem res11 (y : S3x256x16.Idx) : Pipeline.afterTail₀ cfgs (dats m) 0 (V0 m) [hostOps1] c main_v11 y
    = own (aI m c) (xaAll (aX m c) (aA m c)) (tok (y 0) (y 1)) (y 2) := by
  obtain ⟨i, j, k, rfl⟩ : ∃ i j k, y = ix3 i j k := ⟨y 0, y 1, y 2, ValueIdx.eq_ix3 y⟩
  refine (Host.out11 m c i j k).trans ((Arrays.arr11 m c _).trans ((Open.o11 m c t0_0 _).trans ?_))
  exact bands_spec (keptX_spec (Host.in0 m c t0_0) (Host.in4 m c t0_0) (Host.in6 m c t0_0)) _ _

/-- THE RUN: the five results and the kept arguments, on every device. -/
theorem run (ρ : Dev nD → PrngReg) :
    θ_run (defs (F := Idealize.ShloMosaic.Ideal)) (onTc (τ := τ) (main (F := Idealize.ShloMosaic.Ideal))) ⟨m, fun _ => 0, ρ⟩ (fun r => ∀ c : Dev nD,
      (∀ y : S3x256x2048.Idx, r.2.mem ((c.tc : Thread nD τ).loc main_v6) y
        = dx (aDY m c) (aW m c) (aS m c) (aA m c) (aB m c) (aI m c) (tok (y 0) (y 1)) (y 2))
      ∧ (∀ y : S5x2048x16.Idx, r.2.mem ((c.tc : Thread nD τ).loc main_v8) y = dA (aX m c) (aDY m c) (aB m c) (aI m c) (y 0) (y 1) (y 2))
      ∧ (∀ y : S5x16x5632.Idx, r.2.mem ((c.tc : Thread nD τ).loc main_v9) y = dB (aX m c) (aDY m c) (aA m c) (aI m c) (y 0) (y 1) (y 2))
      ∧ (∀ y : S3x256x16.Idx, r.2.mem ((c.tc : Thread nD τ).loc main_v10) y = own (aI m c) (gAll (aDY m c) (aB m c)) (tok (y 0) (y 1)) (y 2))
      ∧ (∀ y : S3x256x16.Idx, r.2.mem ((c.tc : Thread nD τ).loc main_v11) y = own (aI m c) (xaAll (aX m c) (aA m c)) (tok (y 0) (y 1)) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (θ_run_and (run_main m ρ) (unchanged m ρ))
  refine ⟨fun y => ?_, fun y => ?_, fun y => ?_, fun y => ?_, fun y => ?_, h.2 c⟩
  · exact (congrFun ((h.1 c).2 main_v6 (Pipeline.mem_restRefs_of main_v6 (by decide) (by decide))) y).trans (res6 m c y)
  · exact (congrFun ((h.1 c).2 main_v8 (Pipeline.mem_restRefs_of main_v8 (by decide) (by decide))) y).trans (res8 m c y)
  · exact (congrFun ((h.1 c).2 main_v9 (Pipeline.mem_restRefs_of main_v9 (by decide) (by decide))) y).trans (res9 m c y)
  · exact (congrFun ((h.1 c).2 main_v10 (Pipeline.mem_restRefs_of main_v10 (by decide) (by decide))) y).trans (res10 m c y)
  · exact (congrFun ((h.1 c).2 main_v11 (Pipeline.mem_restRefs_of main_v11 (by decide) (by decide))) y).trans (res11 m c y)

end Cert.KernelIdeal.KernelRun
-- ==== Proof.Gather.lean ====
/- Picking one adapter's values at each token, as the reference does it: indices outside the table wrap or are masked,
   so at a token whose adapter exists the pick is that adapter's row of the table. -/
module

public import proofs.«01_k».proof.Proof.Gen.ReferenceIdeal.Read
public import proofs.«01_k».proof.Proof.Spec

@[expose] public section

set_option maxRecDepth 16384

noncomputable section

namespace Cert.ReferenceIdeal.Gather

open Cert.ReferenceIdeal Cert.ReferenceIdeal.Gen Cert.ReferenceIdeal.Read Idealize.ShloMosaic
open Cert.Spec

/-- The gather read at an index: token `t`'s table row at its start index, read signed and clamped into the table. -/
theorem gather_apply (x : S768x5x16.Idx → EReal) (idx : IVec S768x1x1 32) (t : Fin 768) (r : Fin 16) :
    Host.gather gather_S768x5x16_S768x1x1_S768x1x16_2_1_0_0_1_2_1116 x idx (ix3 t 0 r) = x (ix3 t ⟨min (idx (ix3 t 0 0)).toInt.toNat 4, by omega⟩ r) := by
  unfold Host.gather
  congr 1
  funext a
  refine Fin.ext ?_
  show (gather_S768x5x16_S768x1x1_S768x1x16_2_1_0_0_1_2_1116).start (ix3 t 0 r) idx a + (gather_S768x5x16_S768x1x1_S768x1x16_2_1_0_0_1_2_1116).batchCoord (ix3 t 0 r) a + (gather_S768x5x16_S768x1x1_S768x1x16_2_1_0_0_1_2_1116).offCoord (ix3 t 0 r) a = _
  match a with
  | ⟨0, h0⟩ =>
    have hb : (⟨0, h0⟩ : Fin S768x5x16.rank) ∈ (gather_S768x5x16_S768x1x1_S768x1x16_2_1_0_0_1_2_1116).operandBatchingDims := List.mem_singleton.mpr rfl
    rw [GatherDims.start_batching _ _ _ _ hb, GatherDims.offCoord_eq_zero _ _ _ (fun h => ((GatherDims.mem_sKept _ _).mp h).2 hb)]
    simp only [Nat.zero_add, Nat.add_zero]
    unfold GatherDims.batchCoord
    rw [dif_pos hb]
    rfl
  | ⟨1, h1⟩ =>
    have hc : (⟨1, h1⟩ : Fin S768x5x16.rank) ∈ (gather_S768x5x16_S768x1x1_S768x1x16_2_1_0_0_1_2_1116).collapsedSliceDims := List.mem_singleton.mpr rfl
    have hm : (⟨1, h1⟩ : Fin S768x5x16.rank) ∈ (gather_S768x5x16_S768x1x1_S768x1x16_2_1_0_0_1_2_1116).startIndexMap := List.mem_singleton.mpr rfl
    rw [GatherDims.batchCoord_eq_zero _ _ _ (fun h => by exact absurd (congrArg Fin.val (List.mem_singleton.mp h)) (by decide +revert)),
      GatherDims.offCoord_eq_zero _ _ _ (fun h => ((GatherDims.mem_sKept _ _).mp h).1 hc)]
    simp only [Nat.add_zero]
    unfold GatherDims.start
    rw [dif_pos hm]
    have hsi : (gather_S768x5x16_S768x1x1_S768x1x16_2_1_0_0_1_2_1116).siIdx (ix3 t 0 r) ⟨List.idxOf (⟨1, h1⟩ : Fin S768x5x16.rank) (gather_S768x5x16_S768x1x1_S768x1x16_2_1_0_0_1_2_1116).startIndexMap,
        List.idxOf_lt_length_iff.2 hm⟩ = ix3 t 0 0 := by
      funext b; refine Fin.ext ?_
      match b with
      | ⟨0, _⟩ => rfl
      | ⟨1, _⟩ => rfl
      | ⟨2, _⟩ => rfl
    rw [hsi]
    rfl
  | ⟨2, h2⟩ =>
    have hk : (⟨2, h2⟩ : Fin S768x5x16.rank) ∈ (gather_S768x5x16_S768x1x1_S768x1x16_2_1_0_0_1_2_1116).sKept := (GatherDims.mem_sKept _ _).mpr
      ⟨fun h => absurd (congrArg Fin.val (List.mem_singleton.mp h)) (by decide +revert),
       fun h => absurd (congrArg Fin.val (List.mem_singleton.mp h)) (by decide +revert)⟩
    rw [GatherDims.batchCoord_eq_zero _ _ _ (fun h => by exact absurd (congrArg Fin.val (List.mem_singleton.mp h)) (by decide +revert))]
    unfold GatherDims.start
    rw [dif_neg (fun h => by exact absurd (congrArg Fin.val (List.mem_singleton.mp h)) (by decide +revert))]
    simp only [Nat.zero_add]
    unfold GatherDims.offCoord
    rw [dif_pos hk]
    rfl

variable (x6 : IVec S3x256 32)

/-- The wrapped index of a token whose adapter is `e`: `e` itself. -/
theorem idx_g (t : Fin 768) (e : Fin 5) (h : x6 (ix2 (row t) (pos t)) = BitVec.ofNat 32 e.val) :
    val_main_call2_v4 (F := Idealize.ShloMosaic.Ideal) x6 (ix3 t 0 0) = BitVec.ofNat 32 e.val := by
  pointwise [val_main_call2_v4, val_main_call2_v3, val_main_call2_v1, val_main_call2_v0, val_main_call2_v2, val_main_call2_c, val_main_call2_c_0, val_main_v43, val_main_v2]
  rw [show x6 (ix2 ⟨t.val / 256, _⟩ ⟨t.val % 256, _⟩) = _ from h]
  clear h; revert e; decide

/-- … and it passes the range test. -/
theorem ok_g (t : Fin 768) (e : Fin 5) (h : x6 (ix2 (row t) (pos t)) = BitVec.ofNat 32 e.val) :
    val_main_call2_v11 (F := Idealize.ShloMosaic.Ideal) x6 (ix2 t 0) = 1#1 := by
  have h10 : val_main_call2_v10 (F := Idealize.ShloMosaic.Ideal) x6 (ix3 t 0 0) = 1#1 := by
    unfold val_main_call2_v10 val_main_call2_v6 val_main_call2_v9
    have := idx_g x6 t e h
    revert this
    generalize val_main_call2_v4 (F := Idealize.ShloMosaic.Ideal) x6 = w
    intro hw
    pointwise [val_main_call2_v5, val_main_call2_v8, val_main_call2_v7, val_main_call2_c_1, val_main_call2_c_2]
    rw [hw]; clear hw h; revert e; decide
  unfold val_main_call2_v11
  revert h10
  generalize val_main_call2_v10 (F := Idealize.ShloMosaic.Ideal) x6 = w
  intro hw
  pointwise [val_main_call2_c_3]
  rw [Finset.univ_unique, Finset.fold_singleton]
  show IntOp.andi (w (ix3 t 0 0)) 1#1 = 1#1
  rw [hw]; rfl

variable (x0 : FVec Idealize.ShloMosaic.Ideal S3x256x2048 .bf16) (x1 : FVec Idealize.ShloMosaic.Ideal S3x256x5632 .bf16)
  (x4 : FVec Idealize.ShloMosaic.Ideal S5x2048x16 .bf16) (x5 : FVec Idealize.ShloMosaic.Ideal S5x16x5632 .bf16)

/-- The table of `dy` times every adapter's B. -/
theorem table_g (t : Fin 768) (e : Fin 5) (r : Fin 16) :
    val_main_v44 (F := Idealize.ShloMosaic.Ideal) x1 x5 (ix3 t e r) = gAll x1 x5 t e r := by
  pointwise [val_main_v44, val_main_v1]
  exact Finset.sum_congr rfl fun n _ => mul_comm _ _

/-- The table of `x` times every adapter's A. -/
theorem table_xa (t : Fin 768) (e : Fin 5) (r : Fin 16) :
    val_main_v48 (F := Idealize.ShloMosaic.Ideal) x0 x4 (ix3 t e r) = xaAll x0 x4 t e r := by
  pointwise [val_main_v48, val_main_v0]
  exact Finset.sum_congr rfl fun n _ => mul_comm _ _

/-- A wrapped index `e` is clamped to itself. -/
theorem clamp (w : BitVec 32) (e : Fin 5) (h : w = BitVec.ofNat 32 e.val) (hlt : min w.toInt.toNat 4 < 5) :
    (⟨min w.toInt.toNat 4, hlt⟩ : Fin 5) = e := by
  subst h; revert e; decide

/-- The reference's g at a token whose adapter is `e`. -/
theorem g_apply (t : Fin 768) (r : Fin 16) (e : Fin 5) (h : x6 (ix2 (row t) (pos t)) = BitVec.ofNat 32 e.val) :
    val_main_v47 (F := Idealize.ShloMosaic.Ideal) x1 x5 x6 (ix2 t r) = gAll x1 x5 t e r := by
  pointwise [val_main_v47, val_main_v46, val_main_v45, val_main_call2_v13]
  rw [ok_g x6 t e h]
  refine (if_pos rfl).trans ?_
  unfold val_main_call2_v12
  refine (gather_apply _ _ t r).trans ?_
  rw [clamp _ e (idx_g x6 t e h), table_g]

/-- The reference's x A at a token whose adapter is `e`. -/
theorem xa_apply (t : Fin 768) (r : Fin 16) (e : Fin 5) (h : x6 (ix2 (row t) (pos t)) = BitVec.ofNat 32 e.val) :
    val_main_v51 (F := Idealize.ShloMosaic.Ideal) x0 x4 x6 (ix2 t r) = xaAll x0 x4 t e r := by
  pointwise [val_main_v51, val_main_v50, val_main_v49, val_main_call3_v13]
  rw [show val_main_call3_v11 (F := Idealize.ShloMosaic.Ideal) x6 (ix2 t 0) = 1#1 from ok_g x6 t e h]
  refine (if_pos rfl).trans ?_
  unfold val_main_call3_v12
  refine (gather_apply _ _ t r).trans ?_
  rw [clamp _ e (show val_main_call3_v4 (F := Idealize.ShloMosaic.Ideal) x6 (ix3 t 0 0) = _ from idx_g x6 t e h), table_xa]

end Cert.ReferenceIdeal.Gather
-- ==== Proof.Reference.lean ====
/- The reference program's five results, each read at one index: the functions of the arguments that Spec.lean states. -/
module

public import proofs.«01_k».proof.Proof.Gather

@[expose] public section

set_option maxRecDepth 16384

noncomputable section

namespace Cert.ReferenceIdeal.Reference

open Cert.ReferenceIdeal Cert.ReferenceIdeal.Gen Cert.ReferenceIdeal.Read Cert.ReferenceIdeal.Gather Idealize.ShloMosaic
open Cert.Spec

variable (x0 : FVec Idealize.ShloMosaic.Ideal S3x256x2048 .bf16) (x1 : FVec Idealize.ShloMosaic.Ideal S3x256x5632 .bf16)
  (x2 : IVec S1024x5632 8) (x3 : FVec Idealize.ShloMosaic.Ideal S16x5632 .bf16)
  (x4 : FVec Idealize.ShloMosaic.Ideal S5x2048x16 .bf16) (x5 : FVec Idealize.ShloMosaic.Ideal S5x16x5632 .bf16) (x6 : IVec S3x256 32)

/-! ## The kept values -/

/-- A select on an equality of words. -/
theorem select_eq (x y : BitVec 32) (a b : EReal) :
    Scalar.select (IntOp.cmpi .eq x y) a b = if x = y then a else b := by
  by_cases h : x = y
  · subst h; simp [Scalar.select, IntOp.cmpi]
  · have h'' : (x == y) = false := by simp [h]
    simp [Scalar.select, IntOp.cmpi, h, h'']

/-- The masked g: a token's value for its own adapter, 0 for the others. -/
theorem g_kept (t : Fin 768) (e : Fin 5) (r : Fin 16) :
    val_main_v54 (F := Idealize.ShloMosaic.Ideal) x1 x5 x6 (ix3 t e r) = keep x6 (gAll x1 x5) t e r := by
  pointwise [val_main_v54, val_main_call4_v0, val_main_call4_v1, val_main_call4_v2, val_main_cst_6, val_main_v53, val_main_v52, val_main_v42, val_main_v41, val_main_v40, val_main_v39, val_main_v38, val_main_v37, val_main_v2]
  rw [select_eq]
  show (if x6 (ix2 (row t) (pos t)) = _ then _ else _) = _
  unfold keep
  split
  · rename_i h; exact g_apply x6 x1 x5 t r e h
  · rfl

/-- The masked x A, likewise. -/
theorem xa_kept (t : Fin 768) (e : Fin 5) (r : Fin 16) :
    val_main_v57 (F := Idealize.ShloMosaic.Ideal) x0 x4 x6 (ix3 t e r) = keep x6 (xaAll x0 x4) t e r := by
  pointwise [val_main_v57, val_main_call5_v0, val_main_call5_v1, val_main_call5_v2, val_main_cst_7, val_main_v56, val_main_v55, val_main_v42, val_main_v41, val_main_v40, val_main_v39, val_main_v38, val_main_v37, val_main_v2]
  rw [select_eq]
  show (if x6 (ix2 (row t) (pos t)) = _ then _ else _) = _
  unfold keep
  split
  · rename_i h; exact xa_apply x6 x0 x4 t r e h
  · rfl

/-- The scaling alpha / r is 16 / 16. -/
theorem scaling : Ideal.div (Ideal.ofBits .f32 1098907648#32) (Ideal.ofBits .f32 1098907648#32) = 1 := by
  have h : Ideal.ofBits .f32 1098907648#32 = ((16 : ℝ) : EReal) := by
    simp [Ideal.ofBits, Ideal.ieee, -EReal.coe_mul]; norm_num
  rw [h]
  unfold Ideal.div
  rw [if_neg (by exact_mod_cast (by norm_num : (16 : ℝ) ≠ 0)), ← EReal.coe_inv, ← EReal.coe_mul]
  norm_num

/-! ## The weights -/

/-- The low half of a byte as the reference decodes it. -/
theorem code_low (b : BitVec 8) :
    (Scalar.select (IntOp.cmpi .sge (IntOp.andi (BitVec.setWidth 32 b) 15#32) 8#32)
      (IntOp.subi (IntOp.andi (BitVec.setWidth 32 b) 15#32) 16#32) (IntOp.andi (BitVec.setWidth 32 b) 15#32)).toInt
      = (nib b 0).toInt := by
  revert b; decide +kernel

/-- The high half. -/
theorem code_high (b : BitVec 8) :
    (Scalar.select (IntOp.cmpi .sge (IntOp.shrsi .host (BitVec.setWidth 32 b) 4#32) 8#32)
      (IntOp.subi (IntOp.shrsi .host (BitVec.setWidth 32 b) 4#32) 16#32) (IntOp.shrsi .host (BitVec.setWidth 32 b) 4#32)).toInt
      = (nib b 1).toInt := by
  revert b; decide +kernel

theorem even_row (i : Fin 1024) (n : Fin 5632) :
    val_main_v24 (F := Idealize.ShloMosaic.Ideal) x2 x3 (ix2 i n) = wt x2 x3 ⟨2 * i.val, by have := i.isLt; omega⟩ n := by
  pointwise [val_main_v24, val_main_v23, val_main_v22, val_main_v21, val_main_v20, val_main_v19, val_main_v13, val_main_v12, val_main_v10, val_main_v11, val_main_v6, val_main_v9, val_main_v5, val_main_v4, val_main_c, val_main_c_2, val_main_c_3]
  unfold wt
  refine congrArg₂ (· * ·) ?_ (congrArg x3 ?_)
  · refine (congrArg (fun z : Int => ((z : ℝ) : EReal)) (code_low (x2 (ix2 i n)))).trans ?_
    have hi : (⟨(2 * i.val) / 2, by have := i.isLt; omega⟩ : Fin 1024) = i := Fin.ext (by show (2 * i.val) / 2 = i.val; omega)
    have hn : nib (x2 (ix2 i n)) (2 * i.val) = nib (x2 (ix2 i n)) 0 := by
      unfold nib; rw [show (2 * i.val) % 2 = 0 % 2 by omega]
    show _ = (((nib (x2 (ix2 ⟨(2 * i.val) / 2, _⟩ n)) (2 * i.val)).toInt : ℝ) : EReal)
    rw [hi, hn]
  · refine congrArg (fun z => ix2 z n) (Fin.ext ?_)
    show i.val / 64 = (2 * i.val) / 128
    omega

theorem odd_row (i : Fin 1024) (n : Fin 5632) :
    val_main_v30 (F := Idealize.ShloMosaic.Ideal) x2 x3 (ix2 i n) = wt x2 x3 ⟨2 * i.val + 1, by have := i.isLt; omega⟩ n := by
  pointwise [val_main_v30, val_main_v29, val_main_v28, val_main_v27, val_main_v26, val_main_v25, val_main_v18, val_main_v17, val_main_v15, val_main_v16, val_main_v8, val_main_v14, val_main_v7, val_main_v4, val_main_c_1, val_main_c_4, val_main_c_5]
  unfold wt
  refine congrArg₂ (· * ·) ?_ (congrArg x3 ?_)
  · refine (congrArg (fun z : Int => ((z : ℝ) : EReal)) (code_high (x2 (ix2 i n)))).trans ?_
    have hi : (⟨(2 * i.val + 1) / 2, by have := i.isLt; omega⟩ : Fin 1024) = i := Fin.ext (by show (2 * i.val + 1) / 2 = i.val; omega)
    have hn : nib (x2 (ix2 i n)) (2 * i.val + 1) = nib (x2 (ix2 i n)) 1 := by
      unfold nib; rw [show (2 * i.val + 1) % 2 = 1 % 2 by omega]
    show _ = (((nib (x2 (ix2 ⟨(2 * i.val + 1) / 2, _⟩ n)) (2 * i.val + 1)).toInt : ℝ) : EReal)
    rw [hi, hn]
  · refine congrArg (fun z => ix2 z n) (Fin.ext ?_)
    show i.val / 64 = (2 * i.val + 1) / 128
    omega

/-- `dy` times the transpose of the dequantized weights. -/
theorem base (t : Fin 768) (j : Fin 2048) :
    val_main_v36 (F := Idealize.ShloMosaic.Ideal) x1 x2 x3 (ix2 t j) = ∑ n : Fin 5632, x1 (ix3 (row t) (pos t) n) * wt x2 x3 j n := by
  pointwise [val_main_v36, val_main_v35, val_main_v34, val_main_v33]
  split
  · unfold val_main_v31
    have hw := even_row x2 x3
    revert hw
    generalize val_main_v24 (F := Idealize.ShloMosaic.Ideal) x2 x3 = w
    intro hw
    pointwise [val_main_v1]
    refine Finset.sum_congr rfl fun n _ => congrArg₂ (· * ·) rfl ?_
    rw [hw]
    congr 1
    exact Fin.ext (by show 2 * (j.val / 2) = j.val; omega)
  · unfold val_main_v32
    have hw := odd_row x2 x3
    revert hw
    generalize val_main_v30 (F := Idealize.ShloMosaic.Ideal) x2 x3 = w
    intro hw
    pointwise [val_main_v1]
    refine Finset.sum_congr rfl fun n _ => congrArg₂ (· * ·) rfl ?_
    rw [hw]
    congr 1
    exact Fin.ext (by show 2 * (j.val / 2) + 1 = j.val; omega)

/-! ## The results -/

/-- A sum over the adapters and their rank coordinates is a sum over the stacked rows. -/
theorem sum_stacked (f : Fin 5 → Fin 16 → EReal) : ∑ e, ∑ r, f e r = ∑ p : Fin 80, f (adp p) (rk p) := by
  rw [← Fintype.sum_prod_type']
  refine Fintype.sum_equiv ⟨fun q => stk q.1 q.2, fun p => (adp p, rk p), fun q => ?_, fun p => ?_⟩ _ _ fun q => ?_
  · simp only [adp_stk, rk_stk]
  · exact Fin.ext (by have := p.isLt; simp only [stk, adp, rk]; omega)
  · simp only [Equiv.coe_fn_mk, adp_stk, rk_stk]

theorem lora (t : Fin 768) (j : Fin 2048) : val_main_v58 (F := Idealize.ShloMosaic.Ideal) x1 x4 x5 x6 (ix2 t j)
    = ∑ p : Fin 80, keep x6 (gAll x1 x5) t (adp p) (rk p) * x4 (ix3 (adp p) j (rk p)) := by
  rw [← sum_stacked fun e r => keep x6 (gAll x1 x5) t e r * x4 (ix3 e j r)]
  unfold val_main_v58
  have hw := g_kept x1 x5 x6
  revert hw
  generalize val_main_v54 (F := Idealize.ShloMosaic.Ideal) x1 x5 x6 = w
  intro hw
  pointwise
  simp only [hw]

theorem res63 (i : Fin 3) (s : Fin 256) (j : Fin 2048) : val_main_v63 (F := Idealize.ShloMosaic.Ideal) x1 x2 x3 x4 x5 x6 (ix3 i s j)
    = dx x1 x2 x3 x4 x5 x6 (tok i s) j := by
  unfold dx
  rw [← base, ← lora]
  pointwise [val_main_v63, val_main_v62, val_main_v61, val_main_v60, val_main_v59, val_main_v3, val_main_cst, val_main_cst_0]
  rw [scaling, one_mul]; rfl

theorem res67 (e : Fin 5) (j : Fin 2048) (r : Fin 16) : val_main_v67 (F := Idealize.ShloMosaic.Ideal) x0 x1 x5 x6 (ix3 e j r)
    = dA x0 x1 x5 x6 e j r := by
  unfold val_main_v67 val_main_v65 val_main_v64
  have hw := g_kept x1 x5 x6
  revert hw
  generalize val_main_v54 (F := Idealize.ShloMosaic.Ideal) x1 x5 x6 = w
  intro hw
  pointwise [val_main_v66, val_main_v3, val_main_cst, val_main_cst_0, val_main_v0]
  rw [scaling, one_mul]
  simp only [hw]; rfl

theorem res70 (e : Fin 5) (r : Fin 16) (n : Fin 5632) : val_main_v70 (F := Idealize.ShloMosaic.Ideal) x0 x1 x4 x6 (ix3 e r n)
    = dB x0 x1 x4 x6 e r n := by
  unfold val_main_v70 val_main_v68
  have hw := xa_kept x0 x4 x6
  revert hw
  generalize val_main_v57 (F := Idealize.ShloMosaic.Ideal) x0 x4 x6 = w
  intro hw
  pointwise [val_main_v69, val_main_v3, val_main_cst, val_main_cst_0, val_main_v1]
  rw [scaling, one_mul]
  simp only [hw]; rfl

/-- g at a token whose adapter exists. -/
theorem res71 (i : Fin 3) (s : Fin 256) (r : Fin 16) (e : Fin 5) (h : x6 (ix2 i s) = BitVec.ofNat 32 e.val) :
    val_main_v71 (F := Idealize.ShloMosaic.Ideal) x1 x5 x6 (ix3 i s r) = own x6 (gAll x1 x5) (tok i s) r := by
  have h' : x6 (ix2 (row (tok i s)) (pos (tok i s))) = BitVec.ofNat 32 e.val := by rw [row_tok, pos_tok]; exact h
  rw [own_eq _ _ _ _ e h', ← g_apply x6 x1 x5 (tok i s) r e h']
  pointwise [val_main_v71]; rfl

/-- x A at a token whose adapter exists. -/
theorem res72 (i : Fin 3) (s : Fin 256) (r : Fin 16) (e : Fin 5) (h : x6 (ix2 i s) = BitVec.ofNat 32 e.val) :
    val_main_v72 (F := Idealize.ShloMosaic.Ideal) x0 x4 x6 (ix3 i s r) = own x6 (xaAll x0 x4) (tok i s) r := by
  have h' : x6 (ix2 (row (tok i s)) (pos (tok i s))) = BitVec.ofNat 32 e.val := by rw [row_tok, pos_tok]; exact h
  rw [own_eq _ _ _ _ e h', ← xa_apply x6 x0 x4 (tok i s) r e h']
  pointwise [val_main_v72]; rfl

end Cert.ReferenceIdeal.Reference
-- ==== Proof.Mask.lean ====
/- The mask: where it selects g and x A, the token's adapter is one of the five. -/
module

public import proofs.«01_k».proof.Proof.Gen.On_adapter_exists
public import proofs.«01_k».proof.Proof.Spec

@[expose] public section

set_option maxRecDepth 16384

noncomputable section

namespace Cert.On_adapter_exists.Mask

open Cert.On_adapter_exists Cert.On_adapter_exists.Gen Idealize.ShloMosaic

/-- A word at least 0 and below 5, signed, is one of the five adapters. -/
theorem of_range (x : BitVec 32) (h : IntOp.andi (IntOp.cmpi .sge x 0#32) (IntOp.cmpi .slt x 5#32) = 1#1) :
    ∃ e : Fin 5, x = BitVec.ofNat 32 e.val := by
  have h1 : BitVec.sle 0#32 x = true ∧ BitVec.slt x 5#32 = true := by
    revert h
    unfold IntOp.andi IntOp.cmpi
    dsimp only
    generalize BitVec.sle 0#32 x = p
    generalize BitVec.slt x 5#32 = q
    revert p q; decide
  have h0 : 0 ≤ x.toInt := by have := h1.1; simp only [BitVec.sle, decide_eq_true_eq] at this; simpa using this
  have h5 : x.toInt < 5 := by have := h1.2; simp only [BitVec.slt, decide_eq_true_eq] at this; simpa using this
  refine ⟨⟨x.toInt.toNat, by omega⟩, ?_⟩
  apply BitVec.eq_of_toInt_eq
  show x.toInt = (BitVec.ofNat 32 x.toInt.toNat).toInt
  rw [BitVec.toInt_ofNat']
  generalize x.toInt = z at *
  rw [Int.toNat_of_nonneg h0]
  symm
  exact Int.bmod_eq_of_le (by omega) (by omega)

variable (x0 : FVec Idealize.ShloMosaic.Ideal S3x256x2048 .bf16) (x1 : FVec Idealize.ShloMosaic.Ideal S3x256x5632 .bf16)
  (x2 : IVec S1024x5632 8) (x3 : FVec Idealize.ShloMosaic.Ideal S16x5632 .bf16)
  (x4 : FVec Idealize.ShloMosaic.Ideal S5x2048x16 .bf16) (x5 : FVec Idealize.ShloMosaic.Ideal S5x16x5632 .bf16) (x6 : IVec S3x256 32)

/-- Where the mask of g is set, the token's adapter exists. -/
theorem fn_g (i : Fin 3) (s : Fin 256) (r : Fin 16)
    (h : (fn (F := Idealize.ShloMosaic.Ideal) x0 x1 x2 x3 x4 x5 x6).2.2.2.1 (ix3 i s r) = 1#1) :
    ∃ e : Fin 5, x6 (ix2 i s) = BitVec.ofNat 32 e.val := by
  refine of_range _ ?_
  rw [← h]
  pointwise [fn]

/-- Where the mask of x A is set, the token's adapter exists. -/
theorem fn_xa (i : Fin 3) (s : Fin 256) (r : Fin 16)
    (h : (fn (F := Idealize.ShloMosaic.Ideal) x0 x1 x2 x3 x4 x5 x6).2.2.2.2 (ix3 i s r) = 1#1) :
    ∃ e : Fin 5, x6 (ix2 i s) = BitVec.ofNat 32 e.val :=
  fn_g x0 x1 x2 x3 x4 x5 x6 i s r h

end Cert.On_adapter_exists.Mask
-- ==== Proof.Algebraic.lean ====
/- The claims: the frames of the three programs, and the equality of the kernel's and the reference's results where the
   mask is set. -/
module

public import proofs.«01_k».proof.Defs
public import proofs.«01_k».proof.Proof.KernelRun
public import proofs.«01_k».proof.Proof.Reference
public import proofs.«01_k».proof.Proof.Mask
public import Idealize.ShloMosaic.Lib.Claim

@[expose] public section

set_option maxRecDepth 16384

noncomputable section

namespace Cert.Proof.Claims

open Idealize.ShloMosaic Idealize.ShloMosaic.TcCoe Idealize.SL.Sem Cert.Spec

/-- The reference runs, leaves its arguments unchanged, and declares no semaphore. -/
theorem frame_reference : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

/-- The results agree: dx, dA and dB everywhere, g and x A at tokens whose adapter exists. -/
theorem algebraic : Cert.algebraic_KernelIdeal_ReferenceIdeal_on_adapter_exists := by
  intro m g m' g' _ hagree
  refine ⟨
    fun c y => dx (KernelIdeal.KernelRun.aDY m c) (KernelIdeal.KernelRun.aW m c) (KernelIdeal.KernelRun.aS m c) (KernelIdeal.KernelRun.aA m c) (KernelIdeal.KernelRun.aB m c) (KernelIdeal.KernelRun.aI m c) (tok (y 0) (y 1)) (y 2),
    fun c y => dA (KernelIdeal.KernelRun.aX m c) (KernelIdeal.KernelRun.aDY m c) (KernelIdeal.KernelRun.aB m c) (KernelIdeal.KernelRun.aI m c) (y 0) (y 1) (y 2),
    fun c y => dB (KernelIdeal.KernelRun.aX m c) (KernelIdeal.KernelRun.aDY m c) (KernelIdeal.KernelRun.aA m c) (KernelIdeal.KernelRun.aI m c) (y 0) (y 1) (y 2),
    fun c y => own (KernelIdeal.KernelRun.aI m c) (gAll (KernelIdeal.KernelRun.aDY m c) (KernelIdeal.KernelRun.aB m c)) (tok (y 0) (y 1)) (y 2),
    fun c y => own (KernelIdeal.KernelRun.aI m c) (xaAll (KernelIdeal.KernelRun.aX m c) (KernelIdeal.KernelRun.aA m c)) (tok (y 0) (y 1)) (y 2), ?_, ?_⟩
  · exact (θ_run Cert.KernelIdeal.defs _ _).mono
      (fun _ h c => ⟨fun i _ => (h c).1 i, fun i _ => (h c).2.1 i, fun i _ => (h c).2.2.1 i, fun i _ => (h c).2.2.2.1 i, fun i _ => (h c).2.2.2.2.1 i, (h c).2.2.2.2.2⟩)
      (KernelIdeal.KernelRun.run m g)
  refine (θ_run Cert.ReferenceIdeal.defs _ _).mono (fun r h c => ⟨?_, ?_, ?_, ?_, ?_, (h c).2.2.2.2.2⟩)
    (Cert.ReferenceIdeal.Value.run (F := Ideal) m' g')
  all_goals obtain ⟨e0, e1, e2, e3, e4, e5, e6⟩ := hagree c
  · intro y _
    obtain ⟨i, j, k, rfl⟩ : ∃ i j k, y = ix3 i j k := ⟨y 0, y 1, y 2, ValueIdx.eq_ix3 y⟩
    refine (congrFun ((h c).1.trans (Cert.ReferenceIdeal.Read.val_main_v63_eq m' c)) _).trans ?_
    rw [e1, e2, e3, e4, e5, e6]
    exact ReferenceIdeal.Reference.res63 _ _ _ _ _ _ i j k
  · intro y _
    obtain ⟨i, j, k, rfl⟩ : ∃ i j k, y = ix3 i j k := ⟨y 0, y 1, y 2, ValueIdx.eq_ix3 y⟩
    refine (congrFun ((h c).2.1.trans (Cert.ReferenceIdeal.Read.val_main_v67_eq _ _ _ _)) _).trans ?_
    rw [e0, e1, e5, e6]
    exact ReferenceIdeal.Reference.res67 _ _ _ _ i j k
  · intro y _
    obtain ⟨i, j, k, rfl⟩ : ∃ i j k, y = ix3 i j k := ⟨y 0, y 1, y 2, ValueIdx.eq_ix3 y⟩
    refine (congrFun ((h c).2.2.1.trans (Cert.ReferenceIdeal.Read.val_main_v70_eq _ _ _ _)) _).trans ?_
    rw [e0, e1, e4, e6]
    exact ReferenceIdeal.Reference.res70 _ _ _ _ i j k
  · intro y hy
    obtain ⟨i, j, k, rfl⟩ : ∃ i j k, y = ix3 i j k := ⟨y 0, y 1, y 2, ValueIdx.eq_ix3 y⟩
    obtain ⟨e, he⟩ := On_adapter_exists.Mask.fn_g _ _ _ _ _ _ _ i j k hy
    refine (congrFun ((h c).2.2.2.1.trans (Cert.ReferenceIdeal.Read.val_main_v71_eq _ _ _)) _).trans ?_
    rw [e1, e5, e6]
    exact ReferenceIdeal.Reference.res71 _ _ _ i j k e he
  · intro y hy
    obtain ⟨i, j, k, rfl⟩ : ∃ i j k, y = ix3 i j k := ⟨y 0, y 1, y 2, ValueIdx.eq_ix3 y⟩
    obtain ⟨e, he⟩ := On_adapter_exists.Mask.fn_xa _ _ _ _ _ _ _ i j k hy
    refine (congrFun ((h c).2.2.2.2.1.trans (Cert.ReferenceIdeal.Read.val_main_v72_eq _ _ _)) _).trans ?_
    rw [e0, e4, e6]
    exact ReferenceIdeal.Reference.res72 _ _ _ i j k e he

end Cert.Proof.Claims
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.On_adapter_exists.Gen.facts,
    fun m ρ _ => Cert.Kernel.Gen.frame m ρ, fun m ρ _ => Cert.KernelIdeal.Gen.frame m ρ, Claims.frame_reference, trivial,
    Claims.algebraic⟩

end Cert.Proof

end
